-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S4x1024x1024 : Shape := ⟨3, ![4, 1024, 1024]⟩
abbrev S3x1024x1024 : Shape := ⟨3, ![3, 1024, 1024]⟩
abbrev S4 : Shape := ⟨1, ![4]⟩
abbrev S2 : Shape := ⟨1, ![2]⟩
abbrev S3x2 : Shape := ⟨2, ![3, 2]⟩
abbrev S_ : Shape := ⟨0, ![]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S1x1 : Shape := ⟨2, ![1, 1]⟩

abbrev nBuf : Space → Nat
  | .hbm => 5
  | .vmem => 7
  | .smem => 2
  | _ => 0

abbrev bufTy : (tb : Table) → Fin (tcTables nBuf tb) → BufTy
  | .hbm, ⟨0, _⟩ => ⟨S4096x1024, .f32⟩
  | .hbm, ⟨1, _⟩ => ⟨S1024x2048, .fp8e5m2⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S1024x2048, .fp8e5m2⟩
  | .local _ .vmem, ⟨1, _⟩ => ⟨S4x1024x1024, .f32⟩
  | .local _ .vmem, ⟨2, _⟩ => ⟨S1024x2048, .bf16⟩
  | .local _ .vmem, ⟨3, _⟩ => ⟨S3x1024x1024, .bf16⟩
  | .local _ .vmem, ⟨4, _⟩ => ⟨S3x1024x1024, .bf16⟩
  | .local _ .vmem, ⟨5, _⟩ => ⟨S3x1024x1024, .bf16⟩
  | .local _ .vmem, ⟨6, _⟩ => ⟨S3x1024x1024, .bf16⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) (c3_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32_3
  let c4_i32_4 : BitVec 32 := 4#32
  let v8 : BitVec 32 := Scalar.remsi v7 c4_i32_4
  let c1024_i32 : BitVec 32 := 1024#32
  let v13 : BitVec 32 := Scalar.muli v8 c1024_i32
  let c0_i32_11 : BitVec 32 := 0#32
  ![v13.toNat, 0]
def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_19 : BitVec 32 := 1#32
  let v26 : BitVec 32 := Scalar.muli v4 c1_i32_19
  let v27 : BitVec 32 := Scalar.addi c0_i32_20 v26
  v27.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_22 : BitVec 32 := 1#32
  let v28 : BitVec 32 := Scalar.muli v6 c1_i32_22
  let v29 : BitVec 32 := Scalar.addi c0_i32_23 v28
  v29.toNat
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_52 : BitVec 32 := 1#32
  let v55 : BitVec 32 := Scalar.muli v6 c1_i32_52
  let v56 : BitVec 32 := Scalar.addi c0_i32_53 v55
  v56.toNat
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_71 : BitVec 32 := 1#32
  let v74 : BitVec 32 := Scalar.muli v4 c1_i32_71
  let v75 : BitVec 32 := Scalar.addi c0_i32_72 v74
  v75.toNat
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_91 : BitVec 32 := 1#32
  let v93 : BitVec 32 := Scalar.muli v6 c1_i32_91
  let v94 : BitVec 32 := Scalar.addi c0_i32_92 v93
  v94.toNat
def k0_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_111 : BitVec 32 := 1#32
  let v112 : BitVec 32 := Scalar.muli v4 c1_i32_111
  let v113 : BitVec 32 := Scalar.addi c0_i32_112 v112
  v113.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_123 : BitVec 32 := 1024#32
  let v128 : BitVec 32 := Scalar.muli v2 c1024_i32_123
  let c0_i32_128 : BitVec 32 := 0#32
  ![v128.toNat, 0]
def k0_dev7 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_183 : BitVec 32 := 1#32
  let v180 : BitVec 32 := Scalar.muli v6 c1_i32_183
  let v181 : BitVec 32 := Scalar.addi c0_i32_184 v180
  v181.toNat
def k0_dev8 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_213 : BitVec 32 := 1#32
  let v204 : BitVec 32 := Scalar.muli v4 c1_i32_213
  let v205 : BitVec 32 := Scalar.addi c0_i32_214 v204
  v205.toNat
def k0_dev9 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_243 : BitVec 32 := 1#32
  let v228 : BitVec 32 := Scalar.muli v6 c1_i32_243
  let v229 : BitVec 32 := Scalar.addi c0_i32_244 v228
  v229.toNat
def k0_dev10 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_273 : BitVec 32 := 1#32
  let v252 : BitVec 32 := Scalar.muli v4 c1_i32_273
  let v253 : BitVec 32 := Scalar.addi c0_i32_274 v252
  v253.toNat
def k0_dev11 (d0 : Dev nD) : Nat :=
  let c0_i32_328 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_327 : BitVec 32 := 1#32
  let v300 : BitVec 32 := Scalar.muli v6 c1_i32_327
  let v301 : BitVec 32 := Scalar.addi c0_i32_328 v300
  v301.toNat
def k0_dev12 (d0 : Dev nD) : Nat :=
  let c0_i32_358 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_357 : BitVec 32 := 1#32
  let v324 : BitVec 32 := Scalar.muli v4 c1_i32_357
  let v325 : BitVec 32 := Scalar.addi c0_i32_358 v324
  v325.toNat
def k0_dev13 (d0 : Dev nD) : Nat :=
  let c0_i32_388 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_387 : BitVec 32 := 1#32
  let v348 : BitVec 32 := Scalar.muli v6 c1_i32_387
  let v349 : BitVec 32 := Scalar.addi c0_i32_388 v348
  v349.toNat
def k0_dev14 (d0 : Dev nD) : Nat :=
  let c0_i32_418 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_417 : BitVec 32 := 1#32
  let v372 : BitVec 32 := Scalar.muli v4 c1_i32_417
  let v373 : BitVec 32 := Scalar.addi c0_i32_418 v372
  v373.toNat
abbrev stage0_0 : Fin 1 → Memref sig .tc .vmem S1024x2048 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .f32⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .f32⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Protocol.lean ====
/-
# The ring kernel's memory, values and protocol

The kernel runs on a ring of four devices.  Device `c` holds a block of `x` (all 4096 rows, 1024 of the
columns) and the matching 1024 rows of the weights.  Partial products travel around the ring in both
directions at once: the columns 0–1023 of the result to the right, the columns 1024–2047 to the left.
Each direction takes three steps, and each step moves a 1024 × 1024 partial sum in two halves of 512 rows.

This module fixes the vocabulary of the proof: the neighbours on the ring, the pieces of the send and
receive buffers, the semaphores by role, what every piece holds when it is handed over, and who hands what
to whom through which semaphore.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit tileCredit_pos)
open Idealize.ShloMosaic.Pipeline (Dat Cfg Window BodyObligation cellOf)

variable {F : FTy → Type} [FloatOps F]

/-- The ring's round accounting: duties named by a Boolean. -/
abbrev UB : Type := URounds (GSem nD τ sig) Bool
/-- It stands beside the pipeline's own. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

/-- The device a piece of direction `d` is sent to: `false` to the right, `true` to the left. -/
def tgt (d : Bool) (c : Dev nD) : Dev nD := if d then prv c else nxt c
/-- The device a piece of direction `d` comes from. -/
def src (d : Bool) (c : Dev nD) : Dev nD := if d then nxt c else prv c

theorem src_tgt (d : Bool) (c : Dev nD) : src d (tgt d c) = c := by revert d c; decide
theorem tgt_src (d : Bool) (c : Dev nD) : tgt d (src d c) = c := by revert d c; decide

/-- Going one step in direction `d` is a permutation of the devices. -/
def ring (d : Bool) : Dev nD ≃ Dev nD := ⟨tgt d, src d, src_tgt d, tgt_src d⟩

/-! ## Memrefs -/

/-- The device's block of `x`, in HBM. -/
abbrev xM : Memref sig .tc .hbm S4096x1024 .f32 := Memref.whole main_arg0
/-- The device's block of the result, in HBM. -/
abbrev oM : Memref sig .tc .hbm S1024x2048 .f32 := Memref.whole main_v1
/-- The four chunks of `x` in VMEM; the first two later hold the result. -/
abbrev fM : Memref sig .tc .vmem S4x1024x1024 .f32 := Memref.whole cc0_scratch0
/-- The weights in bf16. -/
abbrev wM : Memref sig .tc .vmem S1024x2048 .bf16 := Memref.whole cc0_scratch1
/-- The send buffer of direction `d`. -/
abbrev sM : Bool → Memref sig .tc .vmem S3x1024x1024 .bf16
  | false => Memref.whole cc0_scratch2
  | true => Memref.whole cc0_scratch4
/-- The receive buffer of direction `d`. -/
abbrev rM : Bool → Memref sig .tc .vmem S3x1024x1024 .bf16
  | false => Memref.whole cc0_scratch3
  | true => Memref.whole cc0_scratch5

theorem pieceInb (k : Fin 6) : ∀ a, (![k.val / 2, 512 * (k.val % 2), 0] : Fin 3 → ℕ) a + S1x512x1024.size a ≤ S3x1024x1024.size a := by
  revert k; decide
/-- Piece `k` of a send or receive buffer: step `k / 2`, half `k % 2`. -/
abbrev pieceRect (k : Fin 6) : Rect S3x1024x1024 := Rect.unit (s := S3x1024x1024) ![k.val / 2, 512 * (k.val % 2), 0] S1x512x1024.size (pieceInb k)

/-- A piece as a transfer addresses it. -/
abbrev pieceM (M : Memref sig .tc .vmem S3x1024x1024 .bf16) (k : Fin 6) : Memref sig .tc .vmem S512x1024 .bf16 :=
  (M.slice (pieceRect k) (fun _ => rfl)).squeeze S512x1024 squeezes_S1x512x1024_S512x1024

theorem slotInb (j : Fin 4) : ∀ a, (![j.val, 0, 0] : Fin 3 → ℕ) a + S1x1024x1024.size a ≤ S4x1024x1024.size a := by revert j; decide
/-- Slot `j` of the chunk buffer. -/
abbrev slotRect (j : Fin 4) : Rect S4x1024x1024 := Rect.unit (s := S4x1024x1024) ![j.val, 0, 0] S1x1024x1024.size (slotInb j)
theorem halfInb (j : Fin 4) (b : Fin 2) : ∀ a, (![j.val, 512 * b.val, 0] : Fin 3 → ℕ) a + S1x512x1024.size a ≤ S4x1024x1024.size a := by revert j b; decide
/-- Half `b` of slot `j`. -/
abbrev halfRect (j : Fin 4) (b : Fin 2) : Rect S4x1024x1024 := Rect.unit (s := S4x1024x1024) ![j.val, 512 * b.val, 0] S1x512x1024.size (halfInb j b)
/-- A slot as a transfer addresses it. -/
abbrev slotM (j : Fin 4) : Memref sig .tc .vmem S1024x1024 .f32 :=
  (fM.slice (slotRect j) (fun _ => rfl)).squeeze S1024x1024 squeezes_S1x1024x1024_S1024x1024

theorem colInb (d : Fin 2) : ∀ a, (![0, 1024 * d.val] : Fin 2 → ℕ) a + S1024x1024.size a ≤ S1024x2048.size a := by revert d; decide
/-- Column half `d` of a 1024 × 2048 array. -/
abbrev colRect (d : Fin 2) : Rect S1024x2048 := Rect.unit (s := S1024x2048) ![0, 1024 * d.val] S1024x1024.size (colInb d)
/-- Column half `d` of the result, as a transfer addresses it. -/
abbrev outM (d : Fin 2) : Memref sig .tc .hbm S1024x1024 .f32 := oM.slice (colRect d) (fun _ => rfl)

/-- The chunk of `x` (a quarter of its rows) that device `c` copies to slot `j`. -/
def chunk (c : Dev nD) (j : Fin 4) : ℕ := match j with
  | 0 => (c.val + 3) % 4 | 1 => (c.val + 1) % 4 | 2 => (c.val + 2) % 4 | 3 => c.val

theorem chunk_lt (c : Dev nD) (j : Fin 4) : chunk c j < 4 := by revert c j; decide

/-- Where those rows start, as the program computes it. -/
abbrev xOff (c : Dev nD) (j : Fin 4) : Fin 2 → ℕ := match j with
  | 0 => k0_off1 c 3#32 | 1 => k0_off1 c 1#32 | 2 => k0_off1 c 2#32 | 3 => k0_off2 c

theorem xOff_eq (c : Dev nD) (j : Fin 4) : xOff c j = ![1024 * chunk c j, 0] := by
  fin_cases j
  · exact (k0_off1_eq c 2).trans (by simp only [chunk]; rfl)
  · exact (k0_off1_eq c 0).trans (by simp only [chunk]; rfl)
  · exact (k0_off1_eq c 1).trans (by simp only [chunk]; rfl)
  · exact k0_off2_eq c

theorem xInb (c : Dev nD) (j : Fin 4) : ∀ a, xOff c j a + S1024x1024.size a ≤ S4096x1024.size a := by
  fin_cases j
  · exact k0_off1_inb c 2
  · exact k0_off1_inb c 0
  · exact k0_off1_inb c 1
  · exact k0_off2_inb c

/-- The rows of `x` that device `c` copies to slot `j`, as the transfer addresses them. -/
abbrev xSl (c : Dev nD) (j : Fin 4) : Memref sig .tc .hbm S1024x1024 .f32 :=
  xM.slice (Rect.unit (s := S4096x1024) (xOff c j) S1024x1024.size (xInb c j)) (fun _ => rfl)

/-! ## Semaphores by role -/

/-- What a DMA semaphore of the kernel is for: the copy of a chunk of `x` to slot `j`, the copy of column half
    `h` of the result, the sending or the receiving of piece `k` in direction `d`. -/
inductive Role where
  | load (j : Fin 4)
  | out (h : Fin 2)
  | send (d : Bool) (k : Fin 6)
  | recv (d : Bool) (k : Fin 6)
  deriving DecidableEq

/-- The roles, listed. -/
def roles : List Role :=
  [.load 0, .load 1, .load 2, .load 3, .out 0, .out 1,
    .send false 0, .send false 1, .send false 2, .send false 3, .send false 4, .send false 5,
    .recv false 0, .recv false 1, .recv false 2, .recv false 3, .recv false 4, .recv false 5,
    .send true 0, .send true 1, .send true 2, .send true 3, .send true 4, .send true 5,
    .recv true 0, .recv true 1, .recv true 2, .recv true 3, .recv true 4, .recv true 5]

instance : Fintype Role where
  elems := roles.toFinset
  complete r := by
    rw [List.mem_toFinset]
    rcases r with j | h | ⟨d, k⟩ | ⟨d, k⟩
    · fin_cases j <;> decide
    · fin_cases h <;> decide
    · cases d <;> fin_cases k <;> decide
    · cases d <;> fin_cases k <;> decide

set_option backward.proofsInPublic true in
/-- The semaphore of a role. -/
def sem : Role → DmaSem sig
  | .load j => ⟨3 + j.val, by show 3 + j.val < 33; omega⟩
  | .out h => ⟨7 + h.val, by show 7 + h.val < 33; omega⟩
  | .send d k => ⟨9 + 12 * d.toNat + k.val, by show 9 + 12 * d.toNat + k.val < 33; cases d <;> simp <;> omega⟩
  | .recv d k => ⟨15 + 12 * d.toNat + k.val, by show 15 + 12 * d.toNat + k.val < 33; cases d <;> simp <;> omega⟩

/-- The role of a semaphore; the first three are the staging buffers'. -/
def role (q : DmaSem sig) : Option Role := roles.find? fun r => sem r = q

theorem sem_injective : Function.Injective sem := by
  have : ∀ a ∈ roles, ∀ b ∈ roles, sem a = sem b → a = b := by decide
  exact fun a b => this a (List.mem_toFinset.mp (Finset.mem_univ a)) b (List.mem_toFinset.mp (Finset.mem_univ b))

theorem role_sem (r : Role) : role (sem r) = some r := by
  have : ∀ a ∈ roles, role (sem a) = some a := by decide
  exact this r (List.mem_toFinset.mp (Finset.mem_univ r))

theorem role_stage (q : DmaSem sig) (h : q.val < 3) : role q = none := by
  have : ∀ q : Fin 33, q.val < 3 → role q = none := by decide
  exact this q h

/-- The runtime's barrier semaphore. -/
abbrev barS : Sem sig := (SemArray.scalar (sig.barrier 0 rfl) : Sems sig S_).sem

/-- A kernel DMA semaphore of device `c`. -/
abbrev cell (c : Dev nD) (r : Role) : GSem nD τ sig := ((c : Thread nD τ), .dma (sem r))
/-- The barrier semaphore of device `c`. -/
abbrev barCell (c : Dev nD) : GSem nD τ sig := ((c : Thread nD τ), .reg barS)
/-- All of them, `none` standing for the barrier. -/
abbrev kcell (ck : Dev nD × Option Role) : GSem nD τ sig := match ck.2 with
  | none => barCell ck.1
  | some r => cell ck.1 r

/-- What a copy of a chunk or of a column half credits. -/
def NL : ℕ := tileCredit S1024x1024 .f32
/-- What the transfer of a piece credits. -/
def NP : ℕ := tileCredit S512x1024 .bf16
theorem NL_pos : 0 < NL := tileCredit_pos _ _ (by decide)
theorem NP_pos : 0 < NP := tileCredit_pos _ _ (by decide)

/-! ## Values -/

variable (m : (ℓ : Loc nD τ sig) → Buf (Elt F) ℓ)

/-- The row and the column of an index of a half. -/
def hrow (i : S1x512x1024.Idx) : Fin 512 := i 1
def hcol (i : S1x512x1024.Idx) : Fin 1024 := i 2
/-- The row and the column of an index of a square array. -/
def srow (i : S1024x1024.Idx) : Fin 1024 := i 0
def scol (i : S1024x1024.Idx) : Fin 1024 := i 1
/-- The index of a half at a row and a column; -/
def hx (i : Fin 512) (j : Fin 1024) : S1x512x1024.Idx := ix3 (0 : Fin 1) i j
/-- of a square array; -/
def sq (i j : Fin 1024) : S1024x1024.Idx := ix2 i j
/-- and of `x`. -/
def xx (i : Fin 4096) (j : Fin 1024) : S4096x1024.Idx := ix2 i j

set_option backward.proofsInPublic true in
/-- The row of `x` at row `i` of half `b` of a chunk. -/
def rowX (c : Dev nD) (j : Fin 4) (b : Fin 2) (i : Fin 512) : Fin 4096 :=
  ⟨1024 * chunk c j + 512 * b.val + i.val, by have := chunk_lt c j; omega⟩

/-- Half `b` of the chunk of `x` that device `c` copies to slot `j`. -/
def xh (c : Dev nD) (j : Fin 4) (b : Fin 2) : Vec F S1x512x1024 .f32 :=
  fun i => (m ((c : Thread nD τ).loc main_arg0) : S4096x1024.Idx → F .f32) (xx (rowX c j b (hrow i)) (hcol i))

/-- The weights' staging buffer once filled. -/
def wstg (c : Dev nD) : (cc0_stg0_0 : Ref sig .tc).ty.Contents (Elt F) :=
  (win0_0.blk (0 : Fin 1)).view.read (Elt F) (m ((c : Thread nD τ).loc main_arg1))
/-- The first scale's staging buffer once filled. -/
def sxstg (c : Dev nD) : (cc0_stg1_0 : Ref sig .tc).ty.Contents (Elt F) :=
  (win0_1.blk (0 : Fin 1)).view.read (Elt F) (m ((c : Thread nD τ).loc main_arg2))
/-- The second scale's staging buffer once filled. -/
def swstg (c : Dev nD) : (cc0_stg2_0 : Ref sig .tc).ty.Contents (Elt F) :=
  (win0_2.blk (0 : Fin 1)).view.read (Elt F) (m ((c : Thread nD τ).loc main_arg3))

/-- The weights in bf16. -/
def wv (c : Dev nD) : Vec F S1024x2048 .bf16 := k0_pay1 (wstg m c)
/-- Column half `d` of them. -/
def Wh (c : Dev nD) (d : Fin 2) : Vec F S1024x1024 .bf16 := (wM.access (colRect d)).read (Elt F) (wv m c)

/-- The first element of a scale's staging buffer. -/
abbrev ixS : S1.Idx := fun a => match a with
  | ⟨0, _⟩ => (0 : Fin 1)
/-- The scale both factors make. -/
def scale (c : Dev nD) : F .f32 := k0_pay7 (sxstg m c ixS) (swstg m c ixS)

/-- The column half a direction carries. -/
abbrev half (d : Bool) : Fin 2 := if d then 1 else 0

/-- The slot whose chunk is multiplied for direction `d` at step `s`. -/
def slotOf (d : Bool) (s : ℕ) : Fin 4 := match d, s with
  | false, 0 => 0 | false, 1 => 2 | false, _ => 1
  | true, 0 => 1 | true, 1 => 2 | true, _ => 0

/-- The partial sum device `c` sends in direction `d` at step `s`, half `b`: its own product, and from the second
    step on what came from the device before it added. -/
def sv (d : Bool) (b : Fin 2) : ℕ → Dev nD → Vec F S1x512x1024 .bf16
  | 0, c => k0_pay2 (xh m c (slotOf d 0) b) (Wh m c (half d))
  | s + 1, c => k0_pay12 (k0_pay5 (xh m c (slotOf d (s + 1)) b) (Wh m c (half d))) (sv d b s (src d c))

/-- Half `b` of column half `d` of the result on device `c`. -/
def outv (c : Dev nD) (d : Bool) (b : Fin 2) : Vec F S1x512x1024 .f32 :=
  k0_pay30 (scale m c) (k0_pay26 (xh m c 3 b) (Wh m c (half d))) (sv m d b 2 (src d c))

set_option backward.proofsInPublic true in
/-- The step of piece `k`. -/
def stepOf (k : Fin 6) : ℕ := k.val / 2
set_option backward.proofsInPublic true in
/-- The half of piece `k`. -/
def halfOf (k : Fin 6) : Fin 2 := ⟨k.val % 2, Nat.mod_lt _ (by decide)⟩

/-- What device `c` sends as piece `k` in direction `d`. -/
abbrev pv (d : Bool) (k : Fin 6) (c : Dev nD) : Vec F S1x512x1024 .bf16 := sv m d (halfOf k) (stepOf k) c

/-! ## Ownership of pieces, slots and column halves -/

/-- Device `c` owns piece `k` of the buffer and reads `X` there. -/
def piece (M : Memref sig .tc .vmem S3x1024x1024 .bf16) (c : Dev nD) (k : Fin 6) (X : Vec F S1x512x1024 .bf16) : sProp 𝕄 :=
  iprop(∃ f, ⌜(M.access (pieceRect k)).read (Elt F) f = X⌝
    ∗ ((M.access (pieceRect k)).loc (c : Thread nD τ) ↦[(M.access (pieceRect k)).set]{fullShare} f))
/-- Device `c` owns piece `k` of the buffer, whatever it holds. -/
def pieceAny (M : Memref sig .tc .vmem S3x1024x1024 .bf16) (c : Dev nD) (k : Fin 6) : sProp 𝕄 :=
  iprop(∃ f, (M.access (pieceRect k)).loc (c : Thread nD τ) ↦[(M.access (pieceRect k)).set]{fullShare} f)

/-- Device `c` owns slot `j` and reads `Y b` in its half `b`. -/
def slot (c : Dev nD) (j : Fin 4) (Y : Fin 2 → Vec F S1x512x1024 .f32) : sProp 𝕄 :=
  iprop(∃ f, ⌜∀ b, (fM.access (halfRect j b)).read (Elt F) f = Y b⌝
    ∗ ((fM.access (slotRect j)).loc (c : Thread nD τ) ↦[(fM.access (slotRect j)).set]{fullShare} f))
/-- Device `c` owns slot `j`, whatever it holds. -/
def slotAny (c : Dev nD) (j : Fin 4) : sProp 𝕄 :=
  iprop(∃ f, (fM.access (slotRect j)).loc (c : Thread nD τ) ↦[(fM.access (slotRect j)).set]{fullShare} f)

/-- A 1024 × 1024 array made of its two halves of 512 rows. -/
def joinH (Y : Fin 2 → Vec F S1x512x1024 .f32) : Vec F S1024x1024 .f32 := fun i =>
  Y ⟨(srow i).val / 512, by omega⟩ (hx ⟨(srow i).val % 512, Nat.mod_lt _ (by decide)⟩ (scol i))

/-- Device `c` owns column half `h` of the result and reads `Z` there. -/
def outP (c : Dev nD) (h : Fin 2) (Z : Vec F S1024x1024 .f32) : sProp 𝕄 :=
  iprop(∃ f, ⌜(oM.access (colRect h)).read (Elt F) f = Z⌝
    ∗ ((oM.access (colRect h)).loc (c : Thread nD τ) ↦[(oM.access (colRect h)).set]{fullShare} f))
/-- Device `c` owns column half `h` of the result, whatever it holds. -/
def outAny (c : Dev nD) (h : Fin 2) : sProp 𝕄 :=
  iprop(∃ f, (oM.access (colRect h)).loc (c : Thread nD τ) ↦[(oM.access (colRect h)).set]{fullShare} f)

/-- The quarter of the ownership of `x` that the copy to slot `j` takes. -/
def xq : Fin 4 → PosShare TreeShare
  | 0 => fullShare.left.left | 1 => fullShare.left.right | 2 => fullShare.right.left | 3 => fullShare.right.right

/-- The rows the copy to slot `j` reads, at that quarter. -/
def xIn (c : Dev nD) (j : Fin 4) : sProp 𝕄 :=
  iprop((xSl c j).view.loc (c : Thread nD τ) ↦[(xSl c j).view.set]{xq j} m ((c : Thread nD τ).loc main_arg0))

instance (M : Memref sig .tc .vmem S3x1024x1024 .bf16) (c : Dev nD) (k : Fin 6) (X : Vec F S1x512x1024 .bf16) : BI.Storable (upEmb : UEmb _ 𝕄) (piece M c k X) := by
  unfold piece; infer_instance
instance (M : Memref sig .tc .vmem S3x1024x1024 .bf16) (c : Dev nD) (k : Fin 6) : BI.Storable (upEmb : UEmb _ 𝕄) (pieceAny (F := F) M c k) := by
  unfold pieceAny; infer_instance
instance (c : Dev nD) (j : Fin 4) (Y : Fin 2 → Vec F S1x512x1024 .f32) : BI.Storable (upEmb : UEmb _ 𝕄) (slot c j Y) := by
  unfold slot; infer_instance
instance (c : Dev nD) (h : Fin 2) (Z : Vec F S1024x1024 .f32) : BI.Storable (upEmb : UEmb _ 𝕄) (outP c h Z) := by
  unfold outP; infer_instance
instance (c : Dev nD) (j : Fin 4) : BI.Storable (upEmb : UEmb _ 𝕄) (xIn m c j) := by
  unfold xIn; infer_instance

/-! ## The schedule -/

/-- The direction of a column half. -/
abbrev dirOf (h : Fin 2) : Bool := h.val == 1

/-- What completing a transfer hands to the owner of its semaphore: the filled slot and the rows of `x` read; the
    written column half and the slot it came from; the piece sent; the piece received, with what the device
    before sent. -/
def pay (c : Dev nD) : Role → sProp 𝕄
  | .load j => iprop(slot c j (xh m c j) ∗ xIn m c j)
  | .out h => iprop(outP c h (joinH (outv m c (dirOf h))) ∗ slot c (if h = 0 then 0 else 1) (outv m c (dirOf h)))
  | .send d k => piece (sM d) c k (pv m d k c)
  | .recv d k => piece (rM d) c k (pv m d k (src d c))

/-- What the barrier signal of the device in direction `d` hands over: its receive pieces of that direction. -/
def barPay (c : Dev nD) (d : Bool) : sProp 𝕄 := bigSep Finset.univ fun k : Fin 6 => pieceAny (rM d) (tgt d c) k

/-- What a completed transfer credits, by role. -/
def amt : Role → ℕ
  | .load _ => NL | .out _ => NL | .send _ _ => NP | .recv _ _ => NP
theorem amt_pos : ∀ r : Role, 0 < amt r
  | .load _ => NL_pos | .out _ => NL_pos | .send _ _ => NP_pos | .recv _ _ => NP_pos

/-- The duties, the amount and the payload of a semaphore's one round: a barrier has two duties of one unit, a
    kernel DMA semaphore one duty of its credit. -/
def dutiesOf : SemLoc sig → Finset Bool
  | .reg _ => Finset.univ
  | .dma q => if (role q).isSome then {false} else ∅
def amtOf : SemLoc sig → ℕ
  | .reg _ => 1
  | .dma q => (role q).elim 1 amt
theorem amtOf_pos : ∀ sm, 0 < amtOf sm
  | .reg _ => Nat.one_pos
  | .dma q => by
    show 0 < (role q).elim 1 amt
    cases role q with
    | none => exact Nat.one_pos
    | some r => exact amt_pos r
def payOf (c : Dev nD) (d : Bool) : SemLoc sig → sProp 𝕄
  | .reg _ => barPay c d
  | .dma q => (role q).elim iprop(emp) (pay m c)

/-- The schedule: one round. -/
def Rd : Rounds.Schedule (GSem nD τ sig) Bool 𝕄 where
  duties g r := if r = 0 ∧ g.1.2 = .tc then dutiesOf g.2 else ∅
  unitless _ := False
  amount g _ _ := amtOf g.2
  payload g _ d := payOf m g.1.1 d g.2
  amount_pos g _ _ _ := amtOf_pos g.2

instance pay_storable (c : Dev nD) (r : Role) : BI.Storable (upEmb : UEmb _ 𝕄) (pay m c r) := by
  cases r <;> unfold pay <;> infer_instance
instance barPay_storable (c : Dev nD) (d : Bool) : BI.Storable (upEmb : UEmb _ 𝕄) (barPay (F := F) c d) := by
  unfold barPay; infer_instance
instance Rd_storable (g : GSem nD τ sig) (r : ℕ) (d : Bool) : BI.Storable (upEmb : UEmb _ 𝕄) ((Rd m).payload g r d) := by
  show BI.Storable upEmb (payOf m g.1.1 d g.2)
  unfold payOf
  split
  · infer_instance
  · next q _ =>
    cases role q with
    | none => exact (inferInstance : BI.Storable (upEmb : UEmb _ 𝕄) iprop(emp))
    | some r => exact pay_storable m _ r

section Sched
variable (c : Dev nD) (r : Role)

theorem duties_bar : (Rd m).duties (barCell c) 0 = Finset.univ := by dsimp only [Rd]; exact if_pos ⟨rfl, rfl⟩
theorem duties_cell : (Rd m).duties (cell c r) 0 = {false} := by
  dsimp only [Rd]; rw [if_pos ⟨rfl, rfl⟩]; show (if (role (sem r)).isSome then {false} else ∅) = _; rw [role_sem]; rfl
theorem duties_later (g : GSem nD τ sig) : ∀ r, 1 ≤ r → (Rd m).duties g r = ∅ :=
  fun r hr => by dsimp only [Rd]; rw [if_neg fun h => by omega]
theorem amount_bar (d : Bool) : (Rd m).amount (barCell c) 0 d = 1 := rfl
theorem amount_cell (d : Bool) : (Rd m).amount (cell c r) 0 d = amt r := by dsimp only [Rd, amtOf]; rw [role_sem]; rfl
theorem expect_bar : (Rd m).expect (barCell c) 0 = 2 := by
  unfold Schedule.expect Schedule.amountOf
  rw [duties_bar, Finset.sum_congr rfl fun d _ => amount_bar m c d, Finset.sum_const, Finset.card_univ, Fintype.card_bool, smul_eq_mul]
theorem expect_cell : (Rd m).expect (cell c r) 0 = amt r := by
  unfold Schedule.expect Schedule.amountOf; rw [duties_cell, Finset.sum_singleton, amount_cell]
theorem payload_bar (d : Bool) : (Rd m).payload (barCell c) 0 d = barPay c d := rfl
theorem payload_cell (d : Bool) : (Rd m).payload (cell c r) 0 d = pay m c r := by dsimp only [Rd, payOf]; rw [role_sem]; rfl
/-- All that a barrier's round hands over. -/
theorem rest_bar : bigSep ((Rd m).duties (barCell c) 0 \ ∅) (fun d => (Rd m).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
/-- All that a transfer's round hands over. -/
theorem rest_cell : bigSep ((Rd m).duties (cell c r) 0 \ ∅) (fun d => (Rd m).payload (cell c r) 0 d) = pay m c r := by
  rw [Finset.sdiff_empty, duties_cell, bigSep_singleton, payload_cell]
end Sched

/-! ## What is owed, and the order of the waits -/

/-- The position of a piece in the program's order of sends. -/
def hopNo (d : Bool) (k : Fin 6) : ℕ := 2 * k.val + d.toNat
/-- The sends in program order. -/
def hops : List (Bool × Fin 6) := [(false, 0), (true, 0), (false, 1), (true, 1), (false, 2), (true, 2), (false, 3), (true, 3), (false, 4), (true, 4), (false, 5), (true, 5)]

/-- What a device owes for the sends of a list: each piece's credit to its target's receive semaphore. -/
def owedL (c : Dev nD) : List (Bool × Fin 6) → CellTallies nD τ sig Unit
  | [] => 0
  | p :: l => owedL c l + tallyAt (cell (tgt p.1 c) (.recv p.1 p.2)) () NP

/-- At launch a device owes all its sends, and a unit to each neighbour's barrier. -/
def O₁ (c : Dev nD) : CellTallies nD τ sig Unit := owedL c hops + tallyAt (barCell (src true c)) () 1
def O₀ (c : Dev nD) : CellTallies nD τ sig Unit := O₁ c + tallyAt (barCell (src false c)) () 1

def L (g : GSem nD τ sig) : Finset Unit := if g.1.2 = .tc then {()} else ∅
/-- Barriers stand at 1, a piece's receive semaphore at 2 plus its position, everything else at 0. -/
def lv (g : GSem nD τ sig) (_ : Unit) : ℕ := match g.2 with
  | .reg _ => 1
  | .dma q => match role q with
    | some (.recv d k) => 2 + hopNo d k
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (d : Bool) (k : Fin 6) (u : Unit) : lv (cell c (.recv d k)) u = 2 + hopNo d k := by
  dsimp only [lv]; rw [role_sem]

theorem owedL_pos {c : Dev nD} {l : List (Bool × Fin 6)} {g : GSem nD τ sig} {u : Unit} (h : 0 < owedL c l g u) :
    ∃ p ∈ l, g = cell (tgt p.1 c) (.recv p.1 p.2) := by
  induction l with
  | nil => exact absurd h (Nat.lt_irrefl 0)
  | cons p l ih =>
    unfold owedL at h
    rw [Pi.add_apply, Finsupp.add_apply, tallyAt_apply] at h
    by_cases hg : g = cell (tgt p.1 c) (.recv p.1 p.2) ∧ u = ()
    · exact ⟨p, List.mem_cons_self, hg.1⟩
    · rw [if_neg hg, Nat.add_zero] at h
      obtain ⟨p', hp', e⟩ := ih h
      exact ⟨p', List.mem_cons_of_mem _ hp', e⟩

theorem add_tally_pos {O : CellTallies nD τ sig Unit} {g₁ g : GSem nD τ sig} {n : ℕ} {u : Unit} (h : 0 < (O + tallyAt g₁ () n) g u) :
    0 < O g u ∨ g = g₁ := by
  rw [Pi.add_apply, Finsupp.add_apply, tallyAt_apply] at h
  by_cases h1 : g = g₁ ∧ u = ()
  · exact Or.inr h1.1
  · rw [if_neg h1, Nat.add_zero] at h; exact Or.inl h

theorem O₀_pos {c : Dev nD} {g : GSem nD τ sig} {u : Unit} (h : 0 < O₀ c g u) :
    (∃ p ∈ hops, g = cell (tgt p.1 c) (.recv p.1 p.2)) ∨ g = barCell (src true c) ∨ g = barCell (src false c) := by
  rcases add_tally_pos (O := O₁ c) h with h | h
  · rcases add_tally_pos (O := owedL c hops) h with h | h
    · exact Or.inl (owedL_pos h)
    · exact Or.inr (Or.inl h)
  · exact Or.inr (Or.inr h)

/-- A device owing only sends may wait on a semaphore below all of them. -/
theorem mayWait_owed (c : Dev nD) (sm : SemLoc sig) (l : List (Bool × Fin 6)) (n : ℕ) (hs : lv ((c : Thread nD τ), sm) () ≤ n)
    (hl : ∀ p ∈ l, n < 2 + hopNo p.1 p.2) :
    (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨p, _, rfl⟩ := owedL_pos hg; exact Finset.mem_singleton_self _)
    (fun p hp => by rw [Finset.mem_singleton.mp hp]; exact hs)
    (fun g u hg => by obtain ⟨p, hp, rfl⟩ := owedL_pos hg; rw [lv_recv]; exact hl p hp)

theorem lv_stage (c : Dev nD) (q : DmaSem sig) (hq : q.val < 3) (u : Unit) : lv ((c : Thread nD τ), .dma q) u = 0 := by
  dsimp only [lv]; rw [role_stage q hq]

/-- A staging buffer's semaphore is below everything owed at launch. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, _, rfl⟩ | rfl | rfl <;> exact Finset.mem_singleton_self _)
      (fun p hp => by rw [Finset.mem_singleton.mp hp]; exact (lv_stage c q hq ()).le)
      (fun g u hg => by
        rcases O₀_pos hg with ⟨p, _, rfl⟩ | rfl | rfl
        · rw [lv_recv]; omega
        · rw [lv_bar]; decide
        · rw [lv_bar]; decide)
  · rw [MayWait_zero]; iintro -; iempintro

end Ring
-- ==== Proof.Geometry.lean ====
/-
# Where pieces, slots and column halves lie

The six pieces of a send or receive buffer, the four slots of the chunk buffer and the two column halves of
the result each cover their array without overlap; the two halves of a slot lie where a transfer of the slot
puts its rows 0–511 and 512–1023; and a copy of a chunk of `x` brings exactly the two halves `xh`.
-/
module

public import proofs.«01_k».proof.Proof.Protocol

@[expose] public section

noncomputable section

namespace Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit tileCredit_pos)
open Idealize.ShloMosaic.Pipeline (Dat Cfg Window BodyObligation cellOf)

variable {F : FTy → Type} [FloatOps F]

local notation "𝕄" => MT nD τ sig Unit (Elt F) ℕ UU ℕ

/-! ## Covers -/

theorem piece_disjoint : Set.PairwiseDisjoint (↑(Finset.univ : Finset (Fin 6))) fun k => (pieceRect k).set := by
  intro k _ k' _ hne
  refine Finset.disjoint_left.mpr fun i hi hi' => hne ?_
  rw [Rect.mem_set_unit] at hi hi'
  have h0 : k.val / 2 ≤ (i 0).val ∧ (i 0).val < k.val / 2 + 1 := hi 0
  have h1 : 512 * (k.val % 2) ≤ (i 1).val ∧ (i 1).val < 512 * (k.val % 2) + 512 := hi 1
  have h0' : k'.val / 2 ≤ (i 0).val ∧ (i 0).val < k'.val / 2 + 1 := hi' 0
  have h1' : 512 * (k'.val % 2) ≤ (i 1).val ∧ (i 1).val < 512 * (k'.val % 2) + 512 := hi' 1
  apply Fin.ext; omega

theorem piece_cover : (Finset.univ : Finset (Fin 6)).biUnion (fun k => (pieceRect k).set) = Finset.univ := by
  refine Finset.eq_univ_iff_forall.mpr fun i => ?_
  have h0 : (i 0).val < 3 := (i 0).isLt
  have h1 : (i 1).val < 1024 := (i 1).isLt
  have h2 : (i 2).val < 1024 := (i 2).isLt
  refine Finset.mem_biUnion.mpr ⟨⟨2 * (i 0).val + (i 1).val / 512, by omega⟩, Finset.mem_univ _, ?_⟩
  rw [Rect.mem_set_unit]
  intro a
  fin_cases a
  · show (2 * (i 0).val + (i 1).val / 512) / 2 ≤ (i 0).val ∧ (i 0).val < (2 * (i 0).val + (i 1).val / 512) / 2 + 1
    omega
  · show 512 * ((2 * (i 0).val + (i 1).val / 512) % 2) ≤ (i 1).val ∧ (i 1).val < 512 * ((2 * (i 0).val + (i 1).val / 512) % 2) + 512
    omega
  · show 0 ≤ (i 2).val ∧ (i 2).val < 0 + 1024
    omega

theorem slot_disjoint : Set.PairwiseDisjoint (↑(Finset.univ : Finset (Fin 4))) fun j => (slotRect j).set := by
  intro k _ k' _ hne
  refine Finset.disjoint_left.mpr fun i hi hi' => hne ?_
  rw [Rect.mem_set_unit] at hi hi'
  have h0 : k.val ≤ (i 0).val ∧ (i 0).val < k.val + 1 := hi 0
  have h0' : k'.val ≤ (i 0).val ∧ (i 0).val < k'.val + 1 := hi' 0
  apply Fin.ext; omega

theorem slot_cover : (Finset.univ : Finset (Fin 4)).biUnion (fun j => (slotRect j).set) = Finset.univ := by
  refine Finset.eq_univ_iff_forall.mpr fun i => ?_
  have h1 : (i 1).val < 1024 := (i 1).isLt
  have h2 : (i 2).val < 1024 := (i 2).isLt
  refine Finset.mem_biUnion.mpr ⟨i 0, Finset.mem_univ _, ?_⟩
  rw [Rect.mem_set_unit]
  intro a
  fin_cases a
  · show (i 0).val ≤ (i 0).val ∧ (i 0).val < (i 0).val + 1
    omega
  · show 0 ≤ (i 1).val ∧ (i 1).val < 0 + 1024
    omega
  · show 0 ≤ (i 2).val ∧ (i 2).val < 0 + 1024
    omega

theorem col_disjoint : Set.PairwiseDisjoint (↑(Finset.univ : Finset (Fin 2))) fun h => (colRect h).set := by
  intro k _ k' _ hne
  refine Finset.disjoint_left.mpr fun i hi hi' => hne ?_
  rw [Rect.mem_set_unit] at hi hi'
  have h0 : 1024 * k.val ≤ (i 1).val ∧ (i 1).val < 1024 * k.val + 1024 := hi 1
  have h0' : 1024 * k'.val ≤ (i 1).val ∧ (i 1).val < 1024 * k'.val + 1024 := hi' 1
  apply Fin.ext; omega

theorem col_cover : (Finset.univ : Finset (Fin 2)).biUnion (fun h => (colRect h).set) = Finset.univ := by
  refine Finset.eq_univ_iff_forall.mpr fun i => ?_
  have h0 : (i 0).val < 1024 := (i 0).isLt
  have h1 : (i 1).val < 2048 := (i 1).isLt
  refine Finset.mem_biUnion.mpr ⟨⟨(i 1).val / 1024, by omega⟩, Finset.mem_univ _, ?_⟩
  rw [Rect.mem_set_unit]
  intro a
  fin_cases a
  · show 0 ≤ (i 0).val ∧ (i 0).val < 0 + 1024
    omega
  · show 1024 * ((i 1).val / 1024) ≤ (i 1).val ∧ (i 1).val < 1024 * ((i 1).val / 1024) + 1024
    omega

theorem half_subset (j : Fin 4) (b : Fin 2) : (halfRect j b).set ⊆ (slotRect j).set := by
  intro i hi
  rw [Rect.mem_set_unit] at hi ⊢
  have h1 : 512 * b.val ≤ (i 1).val ∧ (i 1).val < 512 * b.val + 512 := hi 1
  intro a
  fin_cases a
  · exact hi 0
  · show 0 ≤ (i 1).val ∧ (i 1).val < 0 + 1024
    omega
  · exact hi 2

theorem half_disjoint (j : Fin 4) {b b' : Fin 2} (h : b ≠ b') : Disjoint (halfRect j b).set (halfRect j b').set := by
  refine Finset.disjoint_left.mpr fun i hi hi' => h ?_
  rw [Rect.mem_set_unit] at hi hi'
  have h1 : 512 * b.val ≤ (i 1).val ∧ (i 1).val < 512 * b.val + 512 := hi 1
  have h1' : 512 * b'.val ≤ (i 1).val ∧ (i 1).val < 512 * b'.val + 512 := hi' 1
  apply Fin.ext; omega

/-! ## A buffer dealt into parts and put together again -/

section Deal
variable {ℓ : Loc nD τ sig} {n : ℕ} (S : Fin n → Finset (Idx ℓ)) (hd : Set.PairwiseDisjoint (↑(Finset.univ : Finset (Fin n))) S)
  (hc : (Finset.univ : Finset (Fin n)).biUnion S = Finset.univ)
include hd hc

/-- Owning a buffer is owning each part of a partition of it. -/
theorem deal (f : Buf (Elt F) ℓ) : (ℓ ↦{fullShare} f : sProp 𝕄) = bigSep Finset.univ fun k => ℓ ↦[S k]{fullShare} f := by
  rw [← hc]; exact pointsTo_biUnion _ _ hd

/-- Owning every part of a partition of a buffer, each at some contents, is owning the buffer at some contents. -/
theorem undeal (f₀ : Buf (Elt F) ℓ) :
    (bigSep Finset.univ fun k => iprop(∃ f : Buf (Elt F) ℓ, ℓ ↦[S k]{fullShare} f) : sProp 𝕄) ⊢ iprop(∃ f : Buf (Elt F) ℓ, ℓ ↦{fullShare} f) := by
  iintro H
  ihave H' := (BI.bigSep_exists_pi Finset.univ (fun (k : Fin n) (f : Buf (Elt F) ℓ) => (ℓ ↦[S k]{fullShare} f : sProp 𝕄))) $$ H
  icases H' with ⟨%g, H⟩
  ihave H' := (pointsTo_biUnion_join Finset.univ S g f₀ fun k _ k' _ h => hd (Finset.mem_coe.mpr (Finset.mem_univ k)) (Finset.mem_coe.mpr (Finset.mem_univ k')) h) $$ H
  icases H' with ⟨%f, %hf, H⟩
  iexists f
  rw [hc]; iexact H

end Deal

/-! ## The halves of a slot -/

set_option backward.proofsInPublic true in
/-- Row `i` of half `b`. -/
def rowH (b : Fin 2) (i : Fin 512) : Fin 1024 := ⟨512 * b.val + i.val, by omega⟩

theorem half_emb (j : Fin 4) (b : Fin 2) (i : S1x512x1024.Idx) :
    (halfRect j b).emb i = (slotRect j).emb (Shape.reshapeEquiv (squeezes_S1x1024x1024_S1024x1024).numel_eq (sq (rowH b (hrow i)) (hcol i))) := by
  have e : Shape.reshapeEquiv (squeezes_S1x1024x1024_S1024x1024).numel_eq (sq (rowH b (hrow i)) (hcol i)) = ix3 (⟨0, Nat.one_pos⟩ : Fin 1) (rowH b (hrow i)) (hcol i) :=
    reshapeEquiv_ix2_1ab _ _ _
  rw [e]
  have hi : (i 0).val < 1 := (i 0).isLt
  funext a
  apply Fin.ext
  rw [Rect.emb_apply, Rect.emb_apply]
  fin_cases a
  · show j.val + 1 * (i 0).val = j.val + 1 * 0
    omega
  · show 512 * b.val + 1 * (i 1).val = 0 + 1 * (512 * b.val + (i 1).val)
    omega
  · rfl

/-- Reading half `b` of a slot is reading its rows through the slot. -/
theorem half_read (j : Fin 4) (b : Fin 2) (f : (fM.access (slotRect j)).ty.Contents (Elt F)) (i : S1x512x1024.Idx) :
    (fM.access (halfRect j b)).read (Elt F) f i = (slotM j).view.read (Elt F) f (sq (rowH b (hrow i)) (hcol i)) := by
  show _root_.cast _ (f ((halfRect j b).emb i)) = _root_.cast _ (f ((slotRect j).emb (Shape.reshapeEquiv _ (sq (rowH b (hrow i)) (hcol i)))))
  rw [half_emb]

theorem joinH_row (Y : Fin 2 → Vec F S1x512x1024 .f32) (b : Fin 2) (i : Fin 512) (j : Fin 1024) :
    joinH Y (sq (rowH b i) j) = Y b (hx i j) := by
  have h1 : (512 * b.val + i.val) / 512 = b.val := by omega
  have h2 : (512 * b.val + i.val) % 512 = i.val := by omega
  show Y ⟨(512 * b.val + i.val) / 512, _⟩ (hx ⟨(512 * b.val + i.val) % 512, _⟩ j) = _
  have e1 : (⟨(512 * b.val + i.val) / 512, by omega⟩ : Fin 2) = b := Fin.ext h1
  have e2 : (⟨(512 * b.val + i.val) % 512, Nat.mod_lt _ (by decide)⟩ : Fin 512) = i := Fin.ext h2
  rw [e1, e2]

set_option backward.proofsInPublic true in
/-- The half and the row in it of a row of a square array. -/
def hOf (i : S1024x1024.Idx) : Fin 2 := ⟨(srow i).val / 512, by omega⟩
set_option backward.proofsInPublic true in
def rOf (i : S1024x1024.Idx) : Fin 512 := ⟨(srow i).val % 512, Nat.mod_lt _ (by decide)⟩

theorem row_split (i : S1024x1024.Idx) : i = sq (rowH (hOf i) (rOf i)) (scol i) := by
  refine (eq_ix2 i).trans ?_
  show ix2 (i 0) (i 1) = ix2 _ _
  congr 1
  apply Fin.ext
  show (i 0).val = 512 * ((i 0).val / 512) + (i 0).val % 512
  omega

theorem hx_self (i : S1x512x1024.Idx) : i = hx (hrow i) (hcol i) := by
  refine (eq_ix3 i).trans ?_
  show ix3 (i 0) (i 1) (i 2) = ix3 _ _ _
  congr 1
  exact Fin.ext (by have : (i 0).val < 1 := (i 0).isLt; show (i 0).val = 0; omega)

/-- A slot whose halves read `Y` reads the joined array through the transfers' view, and conversely. -/
theorem slot_read (j : Fin 4) (f : (fM.access (slotRect j)).ty.Contents (Elt F)) (Y : Fin 2 → Vec F S1x512x1024 .f32) :
    (∀ b, (fM.access (halfRect j b)).read (Elt F) f = Y b) ↔ (slotM j).view.read (Elt F) f = joinH Y := by
  constructor
  · intro h
    funext i
    rw [row_split i, joinH_row, ← h, half_read]
    rfl
  · intro h b
    funext i
    rw [half_read, h, joinH_row]
    exact congrArg (Y b) (hx_self i).symm

variable (m : (ℓ : Loc nD τ sig) → Buf (Elt F) ℓ)

/-- The rows of `x` a copy reads are the two halves of the chunk. -/
theorem xSl_read (c : Dev nD) (j : Fin 4) :
    (xSl c j).view.read (Elt F) (m ((c : Thread nD τ).loc main_arg0)) = joinH (xh m c j) := by
  funext i
  rw [row_split i, joinH_row]
  generalize hOf i = b; generalize rOf i = r; generalize scol i = q
  show m ((c : Thread nD τ).loc main_arg0) ((Rect.unit (s := S4096x1024) (xOff c j) S1024x1024.size (xInb c j)).emb (sq (rowH b r) q))
    = m ((c : Thread nD τ).loc main_arg0) (xx (rowX c j b r) q)
  apply congrArg
  funext a
  apply Fin.ext
  rw [Rect.emb_apply]
  show xOff c j a + 1 * _ = _
  rw [congrFun (xOff_eq c j) a]
  fin_cases a
  · show 1024 * chunk c j + 1 * (512 * b.val + r.val) = 1024 * chunk c j + 512 * b.val + r.val
    omega
  · show 0 + 1 * q.val = q.val
    omega

end Ring
-- ==== Proof.Steps.lean ====
/-
# One rule per effect of the kernel

Each lemma takes what one instruction of the kernel needs and gives what it leaves: the copies of chunks of `x`
and of column halves of the result, the sends of pieces to a neighbour, the barrier's signals and its wait, the
waits for transfers (which close the semaphore they waited on), the loads and the stores.  All are stated for
an arbitrary device and an arbitrary piece, slot or half.
-/
module

public import proofs.«01_k».proof.Proof.Geometry

@[expose] public section

noncomputable section

namespace Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit tileCredit_pos)
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a kernel program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × Option Role → ℕ)

/-! ## The shared context -/

/-- Every semaphore's invariant, under the names `K`, and that every one is at its first round. -/
def records : sProp 𝕄 :=
  iprop((bigSep Finset.univ fun ck : Dev nD × Option Role => cellInv ER (Rd m) (K ck) (kcell ck))
    ∗ bigSep Finset.univ fun ck : Dev nD × Option Role => reached ER (kcell ck) 0)

instance : BI.Persistent (records m K) := by unfold records; infer_instance

/-- That, and the levels. -/
def ctx : sProp 𝕄 := iprop(records m K ∗ levAts L lv)

instance : BI.Persistent (ctx m K) := by unfold ctx; infer_instance

theorem inv_of (ck : Dev nD × Option Role) :
    (bigSep Finset.univ fun ck : Dev nD × Option Role => (cellInv ER (Rd m) (K ck) (kcell ck) : sProp 𝕄)) ⊢ cellInv ER (Rd m) (K ck) (kcell ck) :=
  bigSep_elim (Finset.mem_univ ck)
theorem reached_of (ck : Dev nD × Option Role) :
    (bigSep Finset.univ fun ck : Dev nD × Option Role => (reached ER (kcell ck) 0 : sProp 𝕄)) ⊢ reached ER (kcell ck) 0 :=
  bigSep_elim (Finset.mem_univ ck)

theorem inv_at (ck : Dev nD × Option Role) : ctx m K ⊢ cellInv ER (Rd m) (K ck) (kcell ck) := by
  unfold ctx records
  iintro ⟨⟨H, -⟩, -⟩
  iapply (inv_of m K ck); iexact H
theorem reached_at (ck : Dev nD × Option Role) : ctx m K ⊢ reached ER (kcell ck) 0 := by
  unfold ctx records
  iintro ⟨⟨-, H⟩, -⟩
  iapply (reached_of (F := F) ck); iexact H
theorem levs : ctx m K ⊢ levAts L lv := by
  unfold ctx
  iintro ⟨-, H⟩; iexact H

/-- Device `c` owes `O`. -/
def owing (c : Dev nD) (O : CellTallies nD τ sig Unit) : sProp 𝕄 := iprop(∃ W, owes (c : Thread nD τ) O W)

/-- The right to start the transfer of a role and then to wait for it. -/
def ini (c : Dev nD) (r : Role) : sProp 𝕄 := iprop(dutyTok ER (cell c r) 0 false ∗ atPos ER (cell c r) 0 ∅ 0)
/-- The right to wait for the transfer of a role. -/
def tk (c : Dev nD) (r : Role) : sProp 𝕄 := iprop(cred (tallyAt (cell c r) () (amt r)) ∗ atPos ER (cell c r) 0 ∅ 0)
/-- The right to send piece `k` in direction `d`: its own side and the receiver's. -/
def sIni (c : Dev nD) (d : Bool) (k : Fin 6) : sProp 𝕄 := iprop(ini c (.send d k) ∗ dutyTok ER (cell (tgt d c) (.recv d k)) 0 false)

section Steps
variable (c : Dev nD) {α : Type} {Q : α → sProp (MT nD τ sig Unit (Elt F) ℕ UU ℕ)}

/-! ## Transfers -/

theorem piece_land (M M' : Memref sig .tc .vmem S3x1024x1024 .bf16) (k : Fin 6) (fd : (pieceM M' k).view.ty.Contents (Elt F))
    (fs : (pieceM M k).view.ty.Contents (Elt F)) :
    (M'.access (pieceRect k)).read (Elt F) ((pieceM M' k).view.write (Elt F) fd ((pieceM M k).view.read (Elt F) fs) Finset.univ)
      = (M.access (pieceRect k)).read (Elt F) fs := by
  funext i
  have h := congrFun (View.read_write_univ (v := (pieceM M' k).view) (Val := Elt F) fd ((pieceM M k).view.read (Elt F) fs))
    ((Shape.reshapeEquiv (squeezes_S1x512x1024_S512x1024).numel_eq).symm i)
  have e : Shape.reshapeEquiv (squeezes_S1x512x1024_S512x1024).numel_eq ((Shape.reshapeEquiv (squeezes_S1x512x1024_S512x1024).numel_eq).symm i) = i :=
    Equiv.apply_symm_apply _ _
  have h' : (M'.access (pieceRect k)).read (Elt F) ((pieceM M' k).view.write (Elt F) fd ((pieceM M k).view.read (Elt F) fs) Finset.univ)
        (Shape.reshapeEquiv (squeezes_S1x512x1024_S512x1024).numel_eq ((Shape.reshapeEquiv (squeezes_S1x512x1024_S512x1024).numel_eq).symm i))
      = (M.access (pieceRect k)).read (Elt F) fs
        (Shape.reshapeEquiv (squeezes_S1x512x1024_S512x1024).numel_eq ((Shape.reshapeEquiv (squeezes_S1x512x1024_S512x1024).numel_eq).symm i)) := h
  rw [e] at h'; exact h'

theorem credit_piece (d : Bool) (k : Fin 6) : (pieceM (rM d) k).view.dmaCredit = NP := by cases d <;> rfl
theorem credit_pieceS (d : Bool) (k : Fin 6) : (pieceM (sM d) k).view.dmaCredit = NP := by cases d <;> rfl
theorem credit_slot (j : Fin 4) : (slotM j).view.dmaCredit = NL := rfl
theorem credit_out (h : Fin 2) : (outM h).view.dmaCredit = NL := rfl

theorem mem_duty (r : Role) : false ∈ (Rd m).duties (cell c r) 0 := by rw [duties_cell]; exact Finset.mem_singleton_self _

/-- A piece is sent to the neighbour it goes to. -/
theorem wp_sendP (d : Bool) (k : Fin 6) (n : Dev nD) (hn : n = tgt d c)
    {s r : Memref sig .tc .vmem S512x1024 .bf16} (hs : s = pieceM (sM d) k) (hr : r = pieceM (rM d) k)
    {q q' : DmaSem sig} (hq : q = sem (.send d k)) (hq' : q' = sem (.recv d k))
    {hsc : r.view.ref.isScScratch = false} {hsrc : s.view.WordExact} {hdst : r.view.WordExact}
    {hsem : DmaTarget.Typed .vmem (.dma q') (.remote (Dev.tc n : Thread nD τ) r (.dma q) hsc)}
    (l : List (Bool × Fin 6)) {kk : PUnit → Prog (TpuEff nD τ sig (Elt F) Λ₀ .tc) α} :
    ctx m K ⊢ iprop((piece (sM d) c k (pv m d k c)) -∗ (pieceAny (rM d) (tgt d c) k) -∗ (owing c (owedL c ((d, k) :: l))) -∗ (sIni c d k)
      -∗ ((owing c (owedL c l) ∗ tk c (.send d k)) -∗ WP c (kk ⟨⟩) Q)
        -∗ WP c (.op (.enqueueDma s (.remote (Dev.tc n : Thread nD τ) r (.dma q) hsc) (.dma q') hsrc hdst hsem) kk) Q) := by
  subst hn; subst hs; subst hr; subst hq; subst hq'
  unfold piece pieceAny owing sIni ini tk
  iintro #Hc ⟨%fs, %hfs, Hs⟩ ⟨%fd, Hd⟩ ⟨%W, HO⟩ ⟨⟨Ht1, Hat⟩, Ht2⟩ Hk
  have e1 : (pieceM (sM d) k).view.set = ((sM d).access (pieceRect k)).set := View.set_reshape _ _
  have e2 : (pieceM (rM d) k).view.set = ((rM d).access (pieceRect k)).set := View.set_reshape _ _
  iapply (Rounds.wp_send_pointsTo 𝒱₀ ER (Rd m) (c : Thread nD τ) none (c' := (tgt d c : Thread nD τ)) (src := pieceM (sM d) k) (dst := pieceM (rM d) k) (sS := .dma (sem (.send d k))) (sem := .dma (sem (.recv d k))) (κ₁ := K (c, some (.send d k))) (κ₂ := K (tgt d c, some (.recv d k)))
      (r₁ := 0) (r₂ := 0) (d₁ := false) (d₂ := false) (fs := fs) (fd := fd) (q := fullShare)
      (mem_duty m c _) (mem_duty m (tgt d c) _) () () NP (credit_piece d k) (amount_cell m c _ false) (amount_cell m (tgt d c) _ false) (owedL c l) rfl (W := W)
      (by
        rw [payload_cell]
        show _ ⊢ piece (sM d) c k (pv m d k c)
        unfold piece
        rw [e1]
        iintro H; iexists fs; isplitr; · (ipureintro; exact hfs)
        iexact H)
      (by
        rw [payload_cell]
        show _ ⊢ piece (rM d) (tgt d c) k (pv m d k (src d (tgt d c)))
        rw [src_tgt]
        unfold piece
        rw [e2]
        iintro H
        iexists ((pieceM (rM d) k).view.write (Elt F) fd ((pieceM (sM d) k).view.read (Elt F) fs) Finset.univ)
        isplitr
        · ipureintro
          exact (piece_land (sM d) (rM d) k fd fs).trans hfs
        iexact H)) $$ [Hs Hd HO Ht1 Ht2]
  · isplitr; · iapply (inv_at m K (c, some (.send d k))); iexact Hc
    isplitr; · iapply (inv_at m K (tgt d c, some (.recv d k))); iexact Hc
    isplitl [Hs]; · rw [e1]; iexact Hs
    isplitl [Hd]; · rw [e2]; iexact Hd
    isplitl [HO]; · iexact HO
    isplitl [Ht1]; · iexact Ht1
    isplitr; · iapply (reached_at m K (c, some (.send d k))); iexact Hc
    isplitl [Ht2]; · iexact Ht2
    iapply (reached_at m K (tgt d c, some (.recv d k))); iexact Hc
  iintro ⟨Hcr, HO⟩
  iapply Hk
  isplitl [HO]; · iexists W; iexact HO
  isplitl [Hcr]; · iexact Hcr
  iexact Hat

/-- A chunk of `x` is copied to its slot. -/
theorem wp_loadX (j : Fin 4) {s : Memref sig .tc .hbm S1024x1024 .f32} (hs : s = xSl c j)
    {r : Memref sig .tc .vmem S1024x1024 .f32} (hr : r = slotM j) {q : DmaSem sig} (hq : q = sem (.load j))
    {hsrc : s.view.WordExact} {hdst : r.view.WordExact} {hsem : DmaTarget.Typed (nD := nD) (p := (.tc : Proc τ)) .hbm (.dma q) (.here r)}
    {kk : PUnit → Prog (TpuEff nD τ sig (Elt F) Λ₀ .tc) α} :
    ctx m K ⊢ iprop((xIn m c j) -∗ (slotAny c j) -∗ (ini c (.load j))
      -∗ (tk c (.load j) -∗ WP c (kk ⟨⟩) Q) -∗ WP c (.op (.enqueueDma s (.here r) (.dma q) hsrc hdst hsem) kk) Q) := by
  subst hs; subst hr; subst hq
  unfold xIn slotAny ini tk
  iintro #Hc Hx ⟨%fd, Hd⟩ ⟨Ht, Hat⟩ Hk
  have e2 : (slotM j).view.set = (fM.access (slotRect j)).set := View.set_reshape _ _
  iapply (Rounds.wp_copy_pointsTo 𝒱₀ ER (Rd m) (c : Thread nD τ) none (src := xSl c j) (dst := slotM j) (sem := .dma (sem (.load j))) (κ := K (c, some (.load j))) (r := 0) (d := false) (q := xq j)
      (fs := m ((c : Thread nD τ).loc main_arg0)) (fd := fd) (mem_duty m c _) () NL (credit_slot j) (amount_cell m c _ false)
      (by
        rw [payload_cell]
        show _ ⊢ iprop(slot c j (xh m c j) ∗ xIn m c j)
        unfold slot xIn
        rw [e2]
        iintro ⟨Hd, Hx⟩
        isplitl [Hd]
        · iexists ((slotM j).view.write (Elt F) fd ((xSl c j).view.read (Elt F) (m ((c : Thread nD τ).loc main_arg0))) Finset.univ)
          isplitr
          · ipureintro
            refine (slot_read j _ _).mpr ?_
            rw [View.read_write_univ]
            exact xSl_read m c j
          iexact Hd
        iexact Hx)) $$ [Hx Hd Ht]
  · isplitr; · iapply (inv_at m K (c, some (.load j))); iexact Hc
    isplitl [Hx]; · iexact Hx
    isplitl [Hd]; · rw [e2]; iexact Hd
    isplitl [Ht]; · iexact Ht
    iapply (reached_at m K (c, some (.load j))); iexact Hc
  iintro Hcr
  iapply Hk
  isplitl [Hcr]; · iexact Hcr
  iexact Hat

/-- A finished slot is copied to its column half of the result. -/
theorem wp_outX (h : Fin 2) (j : Fin 4) (hj : (if h = 0 then (0 : Fin 4) else 1) = j)
    {s : Memref sig .tc .vmem S1024x1024 .f32} (hs : s = slotM j)
    {r : Memref sig .tc .hbm S1024x1024 .f32} (hr : r = outM h) {q : DmaSem sig} (hq : q = sem (.out h))
    {hsrc : s.view.WordExact} {hdst : r.view.WordExact} {hsem : DmaTarget.Typed (nD := nD) (p := (.tc : Proc τ)) .vmem (.dma q) (.here r)}
    {kk : PUnit → Prog (TpuEff nD τ sig (Elt F) Λ₀ .tc) α} :
    ctx m K ⊢ iprop((slot c j (outv m c (dirOf h))) -∗ (outAny c h) -∗ (ini c (.out h))
      -∗ (tk c (.out h) -∗ WP c (kk ⟨⟩) Q) -∗ WP c (.op (.enqueueDma s (.here r) (.dma q) hsrc hdst hsem) kk) Q) := by
  subst hs; subst hr; subst hq
  unfold slot outAny ini tk
  iintro #Hc ⟨%fs, %hfs, Hs⟩ ⟨%fd, Hd⟩ ⟨Ht, Hat⟩ Hk
  have e1 : (slotM j).view.set = (fM.access (slotRect j)).set := View.set_reshape _ _
  iapply (Rounds.wp_copy_pointsTo 𝒱₀ ER (Rd m) (c : Thread nD τ) none (src := slotM j) (dst := outM h) (sem := .dma (sem (.out h))) (κ := K (c, some (.out h))) (r := 0) (d := false) (q := fullShare)
      (fs := fs) (fd := fd) (mem_duty m c _) () NL (credit_out h) (amount_cell m c _ false)
      (by
        rw [payload_cell]
        show _ ⊢ iprop(outP c h (joinH (outv m c (dirOf h))) ∗ slot c (if h = 0 then 0 else 1) (outv m c (dirOf h)))
        rw [hj]
        unfold slot outP
        rw [e1]
        iintro ⟨Hd, Hs⟩
        isplitl [Hd]
        · iexists ((outM h).view.write (Elt F) fd ((slotM j).view.read (Elt F) fs) Finset.univ)
          isplitr
          · ipureintro
            refine (View.read_write_univ (v := (outM h).view) _ _).trans ?_
            exact (slot_read j fs _).mp hfs
          iexact Hd
        iexists fs; isplitr; · (ipureintro; exact hfs)
        iexact Hs)) $$ [Hs Hd Ht]
  · isplitr; · iapply (inv_at m K (c, some (.out h))); iexact Hc
    isplitl [Hs]; · rw [e1]; iexact Hs
    isplitl [Hd]; · iexact Hd
    isplitl [Ht]; · iexact Ht
    iapply (reached_at m K (c, some (.out h))); iexact Hc
  iintro Hcr
  iapply Hk
  isplitl [Hcr]; · iexact Hcr
  iexact Hat

/-! ## Waits -/

/-- A wait for a transfer takes what the transfer hands over and closes its semaphore at zero. -/
theorem wp_waitR (r : Role) (l : List (Bool × Fin 6)) {sp sp' : Space} {s s' : Shape} {e e' : EltTy}
    {src : Memref sig .tc sp' s' e'} {dst : Memref sig .tc sp s e} {hsrc : src.view.WordExact} {hdst : dst.view.WordExact}
    {q : DmaSem sig} (hq : q = sem r) (hN : dst.view.dmaCredit = amt r)
    (hl : ∀ p ∈ l, lv (cell c r) () < 2 + hopNo p.1 p.2)
    {kk : PUnit → Prog (TpuEff nD τ sig (Elt F) Λ₀ .tc) α} :
    ctx m K ⊢ iprop((owing c (owedL c l)) -∗ (tk c r)
      -∗ ((owing c (owedL c l) ∗ semVal (cell c r) 0 ∗ pay m c r) -∗ WP c (kk ⟨⟩) Q)
        -∗ WP c (.op (.waitDma2 q src dst hsrc hdst) kk) Q) := by
  subst hq
  unfold owing tk
  rw [← hN]
  iintro #Hc ⟨%W, HO⟩ ⟨Hcr, Hat⟩ Hk
  iapply (Rounds.wp_wait_rest_token 𝒱₀ ER (Rd m) (c : Thread nD τ) none (κ := K (c, some r))
      (wpE_waitDma2_eq 𝒱₀ (c : Thread nD τ) none Set.univ) (Set.mem_univ _) () (O := owedL c l) (W := W) (R := 0) (m := 0) (T := ∅)
      (by rw [Nat.zero_add, expect_cell, hN])) $$ [Hcr HO Hat]
  · isplitr; · iapply (inv_at m K (c, some r)); iexact Hc
    isplitl [Hcr]; · iexact Hcr
    isplitl [HO]; · iexact HO
    isplitr
    · iapply (mayWait_owed (F := F) c (.dma (sem r)) l (lv (cell c r) ()) le_rfl hl)
      iapply (levs m K); iexact Hc
    iexact Hat
  iintro ⟨HO, Hat, -, Hpay⟩
  ihave Hp := (Entails.of_eq (rest_cell m c r)) $$ Hpay
  imod (Rounds.cell_close ER (Rd m) (Set.mem_univ (K (c, some r))) (fun h => h) (R := 0 + 1) (duties_later m (cell c r))) $$ [Hat] with Hz
  · isplitr; · iapply (inv_at m K (c, some r)); iexact Hc
    iexact Hat
  iapply Hk
  isplitl [HO]; · iexists (insert (SemLoc.dma (sem r), ()) W); iexact HO
  isplitl [Hz]; · iexact Hz
  iexact Hp

/-- A wait for anything but a received piece needs nothing of what is owed. -/
theorem wp_waitL (r : Role) (h : lv (cell c r) () = 0) (l : List (Bool × Fin 6)) {sp sp' : Space} {s s' : Shape} {e e' : EltTy}
    {src : Memref sig .tc sp' s' e'} {dst : Memref sig .tc sp s e} {hsrc : src.view.WordExact} {hdst : dst.view.WordExact}
    {q : DmaSem sig} (hq : q = sem r) (hN : dst.view.dmaCredit = amt r)
    {kk : PUnit → Prog (TpuEff nD τ sig (Elt F) Λ₀ .tc) α} :
    ctx m K ⊢ iprop(owing c (owedL c l) -∗ tk c r
      -∗ ((owing c (owedL c l) ∗ semVal (cell c r) 0 ∗ pay m c r) -∗ WP c (kk ⟨⟩) Q)
        -∗ WP c (.op (.waitDma2 q src dst hsrc hdst) kk) Q) :=
  wp_waitR m K c r l hq hN (fun p _ => by rw [h]; omega)

/-- A received piece is waited for when only later sends are owed. -/
theorem wp_waitP (d : Bool) (k : Fin 6) (l : List (Bool × Fin 6)) (h : ∀ p ∈ l, hopNo d k < hopNo p.1 p.2)
    {src dst : Memref sig .tc .vmem S512x1024 .bf16} (hr : dst = pieceM (rM d) k) {hsrc : src.view.WordExact} {hdst : dst.view.WordExact}
    {q : DmaSem sig} (hq : q = sem (.recv d k))
    {kk : PUnit → Prog (TpuEff nD τ sig (Elt F) Λ₀ .tc) α} :
    ctx m K ⊢ iprop(owing c (owedL c l) -∗ tk c (.recv d k)
      -∗ ((owing c (owedL c l) ∗ semVal (cell c (.recv d k)) 0 ∗ piece (rM d) c k (pv m d k (Ring.src d c))) -∗ WP c (kk ⟨⟩) Q)
        -∗ WP c (.op (.waitDma2 q src dst hsrc hdst) kk) Q) := by
  subst hr
  exact wp_waitR m K c (.recv d k) l hq (credit_piece d k) (fun p hp => by rw [lv_recv]; have := h p hp; omega)

/-- The wait for a sent piece gives the piece back. -/
theorem wp_waitS (d : Bool) (k : Fin 6) (l : List (Bool × Fin 6))
    {src dst : Memref sig .tc .vmem S512x1024 .bf16} (hr : dst = pieceM (sM d) k) {hsrc : src.view.WordExact} {hdst : dst.view.WordExact}
    {q : DmaSem sig} (hq : q = sem (.send d k))
    {kk : PUnit → Prog (TpuEff nD τ sig (Elt F) Λ₀ .tc) α} :
    ctx m K ⊢ iprop(owing c (owedL c l) -∗ tk c (.send d k)
      -∗ ((owing c (owedL c l) ∗ semVal (cell c (.send d k)) 0 ∗ piece (sM d) c k (pv m d k c)) -∗ WP c (kk ⟨⟩) Q)
        -∗ WP c (.op (.waitDma2 q src dst hsrc hdst) kk) Q) := by
  subst hr
  exact wp_waitL m K c (.send d k) (by dsimp only [lv]; rw [role_sem]) l hq (credit_pieceS d k)

/-- A barrier signal to a neighbour hands over the receive pieces that neighbour will send to. -/
theorem wp_sig (d : Bool) (n : Dev nD) (hn : n = src d c) {b : Sem sig} (hb : b = barS) {k' : ℤ} (hk' : k' = ((1 : ℕ) : ℤ))
    (O : CellTallies nD τ sig Unit) {kk : PUnit → Prog (TpuEff nD τ sig (Elt F) Λ₀ .tc) α} :
    ctx m K ⊢ iprop((owing c (O + tallyAt (barCell (src d c)) () 1)) -∗ (dutyTok ER (barCell (src d c)) 0 d) -∗ (bigSep Finset.univ fun k : Fin 6 => pieceAny (rM d) c k)
      -∗ (owing c O -∗ WP c (kk ⟨⟩) Q) -∗ WP c (.op (.semSignal (Dev.tc n : Thread nD τ) b k') kk) Q) := by
  subst hn; subst hb; subst hk'
  unfold owing
  iintro #Hc ⟨%W, HO⟩ Ht Hp Hk
  iapply (Rounds.wp_signal 𝒱₀ ER (Rd m) (c : Thread nD τ) none (dst := (src d c : Thread nD τ)) (κ := K (src d c, none))
      (d := d) (by rw [duties_bar]; exact Finset.mem_univ _) (amount_bar m (src d c) d) () O rfl) $$ [HO Ht Hp]
  · isplitr; · iapply (inv_at m K (src d c, none)); iexact Hc
    isplitl [HO]; · iexact HO
    isplitl [Ht]; · iexact Ht
    isplitl [Hp]
    · rw [payload_bar]; unfold barPay; rw [tgt_src]; iexact Hp
    iapply (reached_at m K (src d c, none)); iexact Hc
  iintro HO
  iapply Hk
  iexists W; iexact HO

/-- The wait on the barrier brings both neighbours' receive pieces. -/
theorem wp_bar {b : Sem sig} (hb : b = barS) {k' : ℤ} (hk' : k' = ((2 : ℕ) : ℤ)) {kk : PUnit → Prog (TpuEff nD τ sig (Elt F) Λ₀ .tc) α} :
    ctx m K ⊢ iprop((owing c (owedL c hops)) -∗ (cred (tallyAt (barCell c) () 2)) -∗ (atPos ER (barCell c) 0 ∅ 0)
      -∗ ((owing c (owedL c hops) ∗ semVal (barCell c) 0 ∗ barPay c false ∗ barPay c true) -∗ WP c (kk ⟨⟩) Q)
        -∗ WP c (.op (.semWait b k') kk) Q) := by
  subst hb; subst hk'
  unfold owing
  iintro #Hc ⟨%W, HO⟩ Hcr Hat Hk
  iapply (Rounds.wp_wait_rest_token 𝒱₀ ER (Rd m) (c : Thread nD τ) none (κ := K (c, none))
      (wpE_semWait_eq 𝒱₀ (c : Thread nD τ) none Set.univ) (Set.mem_univ _) () (O := owedL c hops) (W := W) (R := 0) (m := 0) (T := ∅)
      (by rw [expect_bar])) $$ [Hcr HO Hat]
  · isplitr; · iapply (inv_at m K (c, none)); iexact Hc
    isplitl [Hcr]; · iexact Hcr
    isplitl [HO]; · iexact HO
    isplitr
    · iapply (mayWait_owed (F := F) c (.reg barS) hops 1 le_rfl (fun p _ => by omega))
      iapply (levs m K); iexact Hc
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iapply (inv_at m K (c, none)); iexact Hc
    iexact Hat
  iapply Hk
  isplitl [HO]; · iexists (insert (SemLoc.reg barS, ()) W); iexact HO
  isplitl [Hz]; · iexact Hz
  iexact Hp

/-! ## Loads and stores -/

/-- A load of an owned piece reads what it holds. -/
theorem wp_ldP {M : Memref sig .tc .vmem S3x1024x1024 .bf16} (k : Fin 6) {X : Vec F S1x512x1024 .bf16}
    {hl : M.view.LoadsAt (pieceRect k).toLoadRect}
    {kk : ((pieceRect k).shape.Idx → Elt F .bf16) → Prog (TpuEff nD τ sig (Elt F) Λ₀ .tc) α} :
    piece M c k X ⊢ iprop((piece M c k X -∗ WP c (kk X) Q) -∗ WP c (.op (.load M (pieceRect k).toLoadRect hl) kk) Q) := by
  unfold piece
  iintro ⟨%f, %hf, H⟩ Hk
  iapply (wp_load_rect 𝒱₀ (c : Thread nD τ) none Set.univ (m := M) (r := pieceRect k) (Finset.Subset.refl _)) $$ H
  iintro H
  rw [hf]
  iapply Hk
  iexists f; isplitr; · (ipureintro; exact hf)
  iexact H

/-- A load of a piece whose contents are not known. -/
theorem wp_ldA {M : Memref sig .tc .vmem S3x1024x1024 .bf16} (k : Fin 6)
    {hl : M.view.LoadsAt (pieceRect k).toLoadRect}
    {kk : ((pieceRect k).shape.Idx → Elt F .bf16) → Prog (TpuEff nD τ sig (Elt F) Λ₀ .tc) α} :
    pieceAny M c k ⊢ iprop((∀ X, pieceAny M c k -∗ WP c (kk X) Q) -∗ WP c (.op (.load M (pieceRect k).toLoadRect hl) kk) Q) := by
  unfold pieceAny
  iintro ⟨%f, H⟩ Hk
  iapply (wp_load_rect 𝒱₀ (c : Thread nD τ) none Set.univ (m := M) (r := pieceRect k) (Finset.Subset.refl _)) $$ H
  iintro H
  iapply Hk
  iexists f
  iexact H

/-- A store fills a piece. -/
theorem wp_stP {M : Memref sig .tc .vmem S3x1024x1024 .bf16} (k : Fin 6) {w : Vec F S1x512x1024 .bf16}
    {hx : (M.access (pieceRect k)).Stores Finset.univ} {hm : (Finset.univ : Finset (pieceRect k).shape.Idx) = Finset.univ ∨ ∀ a, (pieceRect k).stride a = 1}
    {kk : PUnit → Prog (TpuEff nD τ sig (Elt F) Λ₀ .tc) α} :
    pieceAny M c k ⊢ iprop((piece M c k w -∗ WP c (kk ⟨⟩) Q) -∗ WP c (.op (.store M (pieceRect k) w Finset.univ hx hm) kk) Q) := by
  unfold piece pieceAny
  iintro ⟨%f, H⟩ Hk
  iapply (wp_store 𝒱₀ (c : Thread nD τ) none Set.univ (m := M) (r := pieceRect k) (Mk := Finset.univ) (w := w) (hx := hx) (hm := hm) (k := kk)
    (S := (M.access (pieceRect k)).set) (f := f) (Finset.Subset.refl _)) $$ H
  iintro H
  iapply Hk
  iexists ((M.access (pieceRect k)).write (Elt F) f w Finset.univ)
  isplitr; · (ipureintro; exact View.read_write_univ _ _)
  iexact H

theorem slot_set (j : Fin 4) : (fM.access (slotRect j)).set = (slotRect j).set := View.set_slice_whole _ _
theorem half_set (j : Fin 4) (b : Fin 2) : (fM.access (halfRect j b)).set = (halfRect j b).set := View.set_slice_whole _ _

/-- A half keeps what it holds when the other is written. -/
theorem half_other (j : Fin 4) {b b' : Fin 2} (hb : b' ≠ b) (f : fM.view.ty.Contents (Elt F)) (w : Vec F S1x512x1024 .f32) :
    (fM.access (halfRect j b')).read (Elt F) ((fM.access (halfRect j b)).write (Elt F) f w Finset.univ)
      = (fM.access (halfRect j b')).read (Elt F) f := by
  have hd : Disjoint (fM.access (halfRect j b')).set ((fM.access (halfRect j b)).setOn Finset.univ) := by
    rw [View.setOn_univ, half_set, half_set]
    exact half_disjoint j hb
  exact View.read_congr fun _ hi => View.write_of_not_mem _ _ _ (Finset.disjoint_left.mp hd hi)

/-- A load of half a slot. -/
theorem wp_ldS (j : Fin 4) (b : Fin 2) {Y : Fin 2 → Vec F S1x512x1024 .f32}
    {hl : fM.view.LoadsAt (halfRect j b).toLoadRect}
    {kk : ((halfRect j b).shape.Idx → Elt F .f32) → Prog (TpuEff nD τ sig (Elt F) Λ₀ .tc) α} :
    slot c j Y ⊢ iprop((slot c j Y -∗ WP c (kk (Y b)) Q) -∗ WP c (.op (.load fM (halfRect j b).toLoadRect hl) kk) Q) := by
  unfold slot
  iintro ⟨%f, %hf, H⟩ Hk
  iapply (wp_load_rect 𝒱₀ (c : Thread nD τ) none Set.univ (m := fM) (r := halfRect j b) (by rw [slot_set, half_set]; exact half_subset j b)) $$ H
  iintro H
  rw [hf]
  iapply Hk
  iexists f; isplitr; · (ipureintro; exact hf)
  iexact H

/-- A store of half a slot leaves the other half. -/
theorem wp_stS (j : Fin 4) (b : Fin 2) {Y : Fin 2 → Vec F S1x512x1024 .f32} {w : Vec F S1x512x1024 .f32}
    {hx : (fM.access (halfRect j b)).Stores Finset.univ} {hm : (Finset.univ : Finset (halfRect j b).shape.Idx) = Finset.univ ∨ ∀ a, (halfRect j b).stride a = 1}
    {kk : PUnit → Prog (TpuEff nD τ sig (Elt F) Λ₀ .tc) α} :
    slot c j Y ⊢ iprop((slot c j (Function.update Y b w) -∗ WP c (kk ⟨⟩) Q) -∗ WP c (.op (.store fM (halfRect j b) w Finset.univ hx hm) kk) Q) := by
  unfold slot
  iintro ⟨%f, %hf, H⟩ Hk
  iapply (wp_store 𝒱₀ (c : Thread nD τ) none Set.univ (m := fM) (r := halfRect j b) (Mk := Finset.univ) (w := w) (hx := hx) (hm := hm) (k := kk)
    (S := (fM.access (slotRect j)).set) (f := f) (by show (fM.access (halfRect j b)).set ⊆ _; rw [slot_set, half_set]; exact half_subset j b)) $$ H
  iintro H
  iapply Hk
  iexists ((fM.access (halfRect j b)).write (Elt F) f w Finset.univ)
  isplitr
  · ipureintro
    intro b'
    by_cases hb : b' = b
    · subst hb; rw [Function.update_self]; exact View.read_write_univ _ _
    · rw [Function.update_of_ne hb, ← hf b']
      exact half_other j hb f w
  iexact H

/-- A load of a column half of the weights. -/
theorem wp_ldW (h : Fin 2) {hl : wM.view.LoadsAt (colRect h).toLoadRect}
    {kk : ((colRect h).shape.Idx → Elt F .bf16) → Prog (TpuEff nD τ sig (Elt F) Λ₀ .tc) α} :
    (((c : Thread nD τ).loc cc0_scratch1) ↦{fullShare} wv m c : sProp 𝕄)
      ⊢ iprop(((((c : Thread nD τ).loc cc0_scratch1) ↦{fullShare} wv m c) -∗ WP c (kk (Wh m c h)) Q)
        -∗ WP c (.op (.load wM (colRect h).toLoadRect hl) kk) Q) :=
  wp_load_rect 𝒱₀ (c : Thread nD τ) none Set.univ (m := wM) (r := colRect h) (Finset.subset_univ _)

/-- A load of half a slot and of a column half of the weights. -/
theorem wp_xw (j : Fin 4) (b : Fin 2) (h : Fin 2) {Y : Fin 2 → Vec F S1x512x1024 .f32}
    {hl : fM.view.LoadsAt (halfRect j b).toLoadRect} {hl' : wM.view.LoadsAt (colRect h).toLoadRect}
    {kk : ((halfRect j b).shape.Idx → Elt F .f32) → ((colRect h).shape.Idx → Elt F .bf16) → Prog (TpuEff nD τ sig (Elt F) Λ₀ .tc) α} :
    slot c j Y ⊢ iprop((((c : Thread nD τ).loc cc0_scratch1) ↦{fullShare} wv m c)
      -∗ ((slot c j Y ∗ (((c : Thread nD τ).loc cc0_scratch1) ↦{fullShare} wv m c)) -∗ WP c (kk (Y b) (Wh m c h)) Q)
      -∗ WP c (.op (.load fM (halfRect j b).toLoadRect hl) fun xs => .op (.load wM (colRect h).toLoadRect hl') fun w => kk xs w) Q) := by
  iintro Hs Hw Hk
  iapply (wp_ldS c j b (kk := fun xs => .op (.load wM (colRect h).toLoadRect hl') fun w => kk xs w)) $$ Hs
  iintro Hs
  iapply (wp_ldW m c h (kk := fun w => kk (Y b) w)) $$ Hw
  iintro Hw
  iapply Hk
  isplitl [Hs] <;> iassumption

/-- A piece is filled: its old contents are read, not used, and overwritten. -/
theorem wp_fill {M : Memref sig .tc .vmem S3x1024x1024 .bf16} (k : Fin 6) (X : Vec F S1x512x1024 .bf16) {w : Vec F S1x512x1024 .bf16} (hw : w = X)
    {hl : M.view.LoadsAt (pieceRect k).toLoadRect}
    {hx : (M.access (pieceRect k)).Stores Finset.univ} {hm : (Finset.univ : Finset (pieceRect k).shape.Idx) = Finset.univ ∨ ∀ a, (pieceRect k).stride a = 1}
    {kk : PUnit → Prog (TpuEff nD τ sig (Elt F) Λ₀ .tc) α} :
    pieceAny M c k ⊢ iprop((piece M c k X -∗ WP c (kk ⟨⟩) Q)
      -∗ WP c (.op (.load M (pieceRect k).toLoadRect hl) fun _ => .op (.store M (pieceRect k) w Finset.univ hx hm) kk) Q) := by
  subst hw
  iintro H Hk
  iapply (wp_ldA c k (kk := fun _ => .op (.store M (pieceRect k) w Finset.univ hx hm) kk)) $$ H
  iintro %X H
  iapply (wp_stP c k) $$ H
  iexact Hk

/-- Half a slot is filled. -/
theorem wp_fillS (j : Fin 4) (b : Fin 2) {Y : Fin 2 → Vec F S1x512x1024 .f32} (X : Vec F S1x512x1024 .f32) {w : Vec F S1x512x1024 .f32} (hw : w = X)
    {hl : fM.view.LoadsAt (halfRect j b).toLoadRect}
    {hx : (fM.access (halfRect j b)).Stores Finset.univ} {hm : (Finset.univ : Finset (halfRect j b).shape.Idx) = Finset.univ ∨ ∀ a, (halfRect j b).stride a = 1}
    {kk : PUnit → Prog (TpuEff nD τ sig (Elt F) Λ₀ .tc) α} :
    slot c j Y ⊢ iprop((slot c j (Function.update Y b X) -∗ WP c (kk ⟨⟩) Q)
      -∗ WP c (.op (.load fM (halfRect j b).toLoadRect hl) fun _ => .op (.store fM (halfRect j b) w Finset.univ hx hm) kk) Q) := by
  subst hw
  iintro H Hk
  iapply (wp_ldS c j b (kk := fun _ => .op (.store fM (halfRect j b) w Finset.univ hx hm) kk)) $$ H
  iintro H
  iapply (wp_stS c j b) $$ H
  iexact Hk

end Steps

end Ring
-- ==== Proof.PartsA.lean ====
/-
# The parts of the kernel's body: the first hop

The printed body is a sequence of parts; each lemma here runs one of them at an arbitrary device `c`, from what it needs to
what it leaves.
-/
module

public import proofs.«01_k».proof.Proof.Steps

@[expose] public section

noncomputable section

namespace Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit tileCredit_pos)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option Role → ℕ) (c : Dev nD)

/-- What is owed once the first `n` sends are done. -/
abbrev owe (n : ℕ) : sProp 𝕄 := owing c (owedL c (hops.drop n))
/-- The staged weights. -/
abbrev qPt : sProp 𝕄 := ((c : Thread nD τ).loc cc0_stg0_0) ↦{fullShare} wstg m c
/-- The staged first scale. -/
abbrev xPt : sProp 𝕄 := ((c : Thread nD τ).loc cc0_stg1_0) ↦{fullShare} sxstg m c
/-- The staged second scale. -/
abbrev yPt : sProp 𝕄 := ((c : Thread nD τ).loc cc0_stg2_0) ↦{fullShare} swstg m c
/-- The weights' buffer before they are put there. -/
abbrev wAny : sProp 𝕄 := iprop(∃ f, ((c : Thread nD τ).loc cc0_scratch1) ↦{fullShare} f)
/-- All pieces of a receive buffer. -/
abbrev recvAll (d : Bool) : sProp 𝕄 := bigSep Finset.univ fun k : Fin 6 => pieceAny (rM d) c k
/-- The weights in bf16, in place. -/
abbrev wPt : sProp 𝕄 := ((c : Thread nD τ).loc cc0_scratch1) ↦{fullShare} wv m c

theorem at_nxt {n : ℕ} (h : n < nD) (e : n = (c.val + 1) % 4) : (⟨n, h⟩ : Dev nD) = tgt false c := Fin.ext e
theorem at_prv {n : ℕ} (h : n < nD) (e : n = (c.val + 3) % 4) : (⟨n, h⟩ : Dev nD) = tgt true c := Fin.ext e

/-- The send that is next in program order. -/
theorem wp_sendN (d : Bool) (k : Fin 6) (i : ℕ) (hi : hops.drop i = (d, k) :: hops.drop (i + 1)) (n : Dev nD) (hn : n = tgt d c)
    {α : Type} {Q : α → sProp (MT nD τ sig Unit (Elt F) ℕ UU ℕ)}
    {s r : Memref sig .tc .vmem S512x1024 .bf16} (hs : s = pieceM (sM d) k) (hr : r = pieceM (rM d) k)
    {q q' : DmaSem sig} (hq : q = sem (.send d k)) (hq' : q' = sem (.recv d k))
    {hsc : r.view.ref.isScScratch = false} {hsrc : s.view.WordExact} {hdst : r.view.WordExact}
    {hsem : DmaTarget.Typed .vmem (.dma q') (.remote (Dev.tc n : Thread nD τ) r (.dma q) hsc)}
    {kk : PUnit → Prog (TpuEff nD τ sig (Elt F) Λ₀ .tc) α} :
    ctx m K ⊢ iprop(piece (sM d) c k (pv m d k c) -∗ pieceAny (rM d) (tgt d c) k -∗ owe c i -∗ sIni c d k
      -∗ ((owe c (i + 1) ∗ tk c (.send d k)) -∗ WP c (kk ⟨⟩) Q)
        -∗ WP c (.op (.enqueueDma s (.remote (Dev.tc n : Thread nD τ) r (.dma q) hsc) (.dma q') hsrc hdst hsem) kk) Q) := by
  unfold owe
  rw [hi]
  exact wp_sendP m K c d k n hn hs hr hq hq' (hops.drop (i + 1))

theorem wp_done {α : Type} {Q : α → sProp (MT nD τ sig Unit (Elt F) ℕ UU ℕ)} {a : α} : Q a ⊢ WP c (.ret a) Q := by
  show _ ⊢ wp frame (wpE (defs₀ (F := F)) 𝒱₀ (c : Thread nD τ) none) Set.univ (.ret a) Q
  rw [wp_ret]; iintro H; imodintro; iexact H

theorem slot_both (j : Fin 4) (Y Z : Fin 2 → Vec F S1x512x1024 .f32) :
    (slot c j (Function.update (Function.update Y 0 (Z 0)) 1 (Z 1)) : sProp 𝕄) = slot c j Z := by
  congr 1
  funext b
  match b with
  | 0 => rfl
  | 1 => rfl

/-- The wait for a chunk of `x` gives the slot holding it. -/
theorem wp_waitX (j : Fin 4) (l : List (Bool × Fin 6)) {α : Type} {Q : α → sProp (MT nD τ sig Unit (Elt F) ℕ UU ℕ)}
    {src : Memref sig .tc .hbm S1024x1024 .f32} {dst : Memref sig .tc .vmem S1024x1024 .f32} (hr : dst = slotM j)
    {hsrc : src.view.WordExact} {hdst : dst.view.WordExact} {q : DmaSem sig} (hq : q = sem (.load j))
    {kk : PUnit → Prog (TpuEff nD τ sig (Elt F) Λ₀ .tc) α} :
    ctx m K ⊢ iprop(owing c (owedL c l) -∗ tk c (.load j)
      -∗ ((owing c (owedL c l) ∗ semVal (cell c (.load j)) 0 ∗ slot c j (xh m c j) ∗ xIn m c j) -∗ WP c (kk ⟨⟩) Q)
        -∗ WP c (.op (.waitDma2 q src dst hsrc hdst) kk) Q) := by
  subst hr
  exact wp_waitL m K c (.load j) (by dsimp only [lv]; rw [role_sem]) l hq (credit_slot j)

/-- The wait for a column half of the result. -/
theorem wp_waitO (h : Fin 2) (j : Fin 4) (hj : (if h = 0 then (0 : Fin 4) else 1) = j) (d : Bool) (hd : dirOf h = d) (l : List (Bool × Fin 6))
    {α : Type} {Q : α → sProp (MT nD τ sig Unit (Elt F) ℕ UU ℕ)}
    {src : Memref sig .tc .vmem S1024x1024 .f32} {dst : Memref sig .tc .hbm S1024x1024 .f32} (hr : dst = outM h)
    {hsrc : src.view.WordExact} {hdst : dst.view.WordExact} {q : DmaSem sig} (hq : q = sem (.out h))
    {kk : PUnit → Prog (TpuEff nD τ sig (Elt F) Λ₀ .tc) α} :
    ctx m K ⊢ iprop(owing c (owedL c l) -∗ tk c (.out h)
      -∗ ((owing c (owedL c l) ∗ semVal (cell c (.out h)) 0 ∗ outP c h (joinH (outv m c d)) ∗ slot c j (outv m c d)) -∗ WP c (kk ⟨⟩) Q)
        -∗ WP c (.op (.waitDma2 q src dst hsrc hdst) kk) Q) := by
  subst hr; subst hj; subst hd
  exact wp_waitL m K c (.out h) (by dsimp only [lv]; rw [role_sem]) l hq (credit_out h)

theorem zeros2 : (![0, 0] : Fin 2 → ℕ) = fun _ => 0 := funext fun a => by fin_cases a <;> rfl

/-- A whole load of the staged weights. -/
theorem wp_ldStage {α : Type} {Q : α → sProp (MT nD τ sig Unit (Elt F) ℕ UU ℕ)} {hb : ∀ a, (![0, 0] : Fin 2 → ℕ) a + S1024x2048.size a ≤ S1024x2048.size a}
    {hl : (Memref.whole cc0_stg0_0 : Memref sig .tc .vmem S1024x2048 .fp8e5m2).view.LoadsAt (Rect.unit (s := S1024x2048) ![0, 0] S1024x2048.size hb).toLoadRect}
    {kk : Vec F S1024x2048 .fp8e5m2 → Prog (TpuEff nD τ sig (Elt F) Λ₀ .tc) α} :
    (((c : Thread nD τ).loc cc0_stg0_0) ↦{fullShare} wstg m c : sProp 𝕄)
      ⊢ iprop(((((c : Thread nD τ).loc cc0_stg0_0) ↦{fullShare} wstg m c) -∗ WP c (kk (wstg m c)) Q)
        -∗ WP c (.op (.load (Memref.whole cc0_stg0_0 : Memref sig .tc .vmem S1024x2048 .fp8e5m2) (Rect.unit (s := S1024x2048) ![0, 0] S1024x2048.size hb).toLoadRect hl) kk) Q) := by
  have h := wp_load (defs := defs₀ (F := F)) (Γ := PendingWaitsCtx.empty) 𝒱₀ (c : Thread nD τ) none Set.univ (m := (Memref.whole cc0_stg0_0 : Memref sig .tc .vmem S1024x2048 .fp8e5m2))
    (r := (Rect.unit (s := S1024x2048) ![0, 0] S1024x2048.size hb).toLoadRect) (hl := hl) (k := kk) (Q := Q) (S := Finset.univ) (q := fullShare) (f := wstg m c) (Finset.subset_univ _)
  have e : (Memref.whole cc0_stg0_0 : Memref sig .tc .vmem S1024x2048 .fp8e5m2).view.readAt (Elt F) (Rect.unit (s := S1024x2048) ![0, 0] S1024x2048.size hb).toLoadRect (wstg m c) = wstg m c :=
    Memref.readAt_unit_zero (Elt F) cc0_stg0_0 zeros2 hb (wstg m c)
  rw [e] at h
  exact h

/-- The weights are put in place: what was there is read, not used, and overwritten. -/
theorem wp_putW {α : Type} {Q : α → sProp (MT nD τ sig Unit (Elt F) ℕ UU ℕ)} {hb : ∀ a, (![0, 0] : Fin 2 → ℕ) a + S1024x2048.size a ≤ S1024x2048.size a}
    {hl : wM.view.LoadsAt (Rect.unit (s := S1024x2048) ![0, 0] S1024x2048.size hb).toLoadRect}
    {hx : (wM.access (Rect.unit (s := S1024x2048) ![0, 0] S1024x2048.size hb)).Stores Finset.univ}
    {hm : (Finset.univ : Finset (Rect.unit (s := S1024x2048) ![0, 0] S1024x2048.size hb).shape.Idx) = Finset.univ ∨ ∀ a, (Rect.unit (s := S1024x2048) ![0, 0] S1024x2048.size hb).stride a = 1}
    {w : Vec F S1024x2048 .bf16} (hw : w = wv m c) {kk : PUnit → Prog (TpuEff nD τ sig (Elt F) Λ₀ .tc) α} :
    (iprop(∃ f, ((c : Thread nD τ).loc cc0_scratch1) ↦{fullShare} f) : sProp 𝕄)
      ⊢ iprop((wPt m c -∗ WP c (kk ⟨⟩) Q)
        -∗ WP c (.op (.load wM (Rect.unit (s := S1024x2048) ![0, 0] S1024x2048.size hb).toLoadRect hl) fun _ =>
            .op (.store wM (Rect.unit (s := S1024x2048) ![0, 0] S1024x2048.size hb) w Finset.univ hx hm) kk) Q) := by
  subst hw
  iintro ⟨%f, H⟩ Hk
  iapply (wp_load 𝒱₀ (c : Thread nD τ) none Set.univ (m := wM) (Finset.subset_univ _)) $$ H; iintro H
  iapply (wp_store 𝒱₀ (c : Thread nD τ) none Set.univ (m := wM) (r := Rect.unit (s := S1024x2048) ![0, 0] S1024x2048.size hb) (Mk := Finset.univ) (Finset.subset_univ _)) $$ H
  iintro H
  have e : (wM.access (Rect.unit (s := S1024x2048) ![0, 0] S1024x2048.size hb)).write (Elt F) f (wv m c) Finset.univ = wv m c :=
    Memref.write_access_unit_zero_univ (Elt F) cc0_scratch1 zeros2 hb f (wv m c)
  rw [e]
  iapply Hk
  iexact H

theorem idx1 (i j : S1.Idx) : i = j := by
  funext a
  match a with
  | ⟨0, _⟩ => exact Fin.ext (by have h1 : (i 0).val < 1 := (i 0).isLt; have h2 : (j 0).val < 1 := (j 0).isLt; show (i 0).val = (j 0).val; omega)

/-- The wait for both neighbours. -/
theorem wp_ready {α : Type} {Q : α → sProp (MT nD τ sig Unit (Elt F) ℕ UU ℕ)} {b : Sem sig} (hb : b = barS) {k' : ℤ} (hk' : k' = ((2 : ℕ) : ℤ)) {kk : PUnit → Prog (TpuEff nD τ sig (Elt F) Λ₀ .tc) α} :
    ctx m K ⊢ iprop(owe c 0 -∗ cred (tallyAt (barCell c) () 2) -∗ atPos ER (barCell c) 0 ∅ 0
      -∗ ((owe c 0 ∗ semVal (barCell c) 0 ∗ barPay c false ∗ barPay c true) -∗ WP c (kk ⟨⟩) Q) -∗ WP c (.op (.semWait b k') kk) Q) :=
  wp_bar m K c hb hk'

/-- A one-element buffer reads its element. -/
theorem sx_read (X : (cc0_stg1_0 : Ref sig .tc).ty.Contents (Elt F)) :
    ((Memref.whole cc0_stg1_0 : Memref sig .tc .smem S1 .f32).access (Rect.unit (s := S1) ![0] S1.size inb_S1_S1_0)).read (Elt F) X = fun _ => X ixS :=
  funext fun _ => congrArg X (idx1 _ _)
theorem sw_read (X : (cc0_stg2_0 : Ref sig .tc).ty.Contents (Elt F)) :
    ((Memref.whole cc0_stg2_0 : Memref sig .tc .smem S1 .f32).access (Rect.unit (s := S1) ![0] S1.size inb_S1_S1_0)).read (Elt F) X = fun _ => X ixS :=
  funext fun _ => congrArg X (idx1 _ _)

/-- A load of a staged scale. -/
theorem wp_ldSc {M : Memref sig .tc .smem S1 .f32} (X : Buf (Elt F) (M.view.loc (c : Thread nD τ))) {α : Type} {Q : α → sProp (MT nD τ sig Unit (Elt F) ℕ UU ℕ)}
    {r : Rect S1} {hw : M.view.LoadsAt r.toLoadRect} {y : Elt F .f32} (hy : (M.access r).read (Elt F) X = fun _ => y)
    {kk : (r.shape.Idx → Elt F .f32) → Prog (TpuEff nD τ sig (Elt F) Λ₀ .tc) α} :
    ((M.view.loc (c : Thread nD τ)) ↦{fullShare} X : sProp 𝕄)
      ⊢ iprop((((M.view.loc (c : Thread nD τ)) ↦{fullShare} X) -∗ WP c (kk fun _ => y) Q) -∗ WP c (.op (.load M r hw) kk) Q) := by
  rw [← hy]
  exact wp_load_rect (defs := defs₀ (F := F)) (Γ := PendingWaitsCtx.empty) 𝒱₀ (c : Thread nD τ) none Set.univ (m := M) (r := r) (S := Finset.univ) (Finset.subset_univ _)

theorem at_src_false {n : ℕ} (h : n < nD) (e : n = (c.val + 3) % 4) : (⟨n, h⟩ : Dev nD) = src false c := Fin.ext e
theorem at_src_true {n : ℕ} (h : n < nD) (e : n = (c.val + 1) % 4) : (⟨n, h⟩ : Dev nD) = src true c := Fin.ext e

/-- The first two chunks of `x` are fetched; the left neighbour may send to the right. -/
theorem part1 {Q : _ → sProp (MT nD τ sig Unit (Elt F) ℕ UU ℕ)} :
    ctx m K ⊢ iprop(xIn m c 0 -∗ slotAny c 0 -∗ ini c (.load 0) -∗ xIn m c 1 -∗ slotAny c 1 -∗ ini c (.load 1) -∗ owing c (O₀ c) -∗ dutyTok ER (barCell (src false c)) 0 false -∗ recvAll c false
      -∗ (∀ v2 v4 v6 v12, (tk c (.load 0) ∗ tk c (.load 1) ∗ owing c (O₁ c)) -∗ Q ⟨c, v2, v4, v6, v12, SemArray.scalar (sig.barrier 0 rfl)⟩)
      -∗ WP c (k0_part1 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q) := by
  rw [k0_part1_eq_skeleton]; unfold k0_part1_skel
  unfold O₀
  simp only [semSignalWord, semWaitWord, Prog.lift, Prog.bind_op, Prog.bind_ret, Prog.bind_assoc, Prog.pure_eq_ret, wp_deviceId]
  iintro #Hc Hx0 Ha0 Hi0 Hx1 Ha1 Hi1 HO Hd0 Hr0 Hk
  iapply (wp_loadX m K c 0 rfl rfl rfl) $$ Hc Hx0 Ha0 Hi0; iintro Ht0
  iapply (wp_loadX m K c 1 rfl rfl rfl) $$ Hc Hx1 Ha1 Hi1; iintro Ht1
  iapply (wp_sig m K c false _ (at_src_false c _ (k0_dev1_eq c)) rfl rfl (O₁ c)) $$ Hc HO Hd0 Hr0; iintro HO
  iapply (wp_done c)
  iapply Hk
  isplitl [Ht0]; · iexact Ht0
  isplitl [Ht1]; · iexact Ht1
  iexact HO

/-- The right neighbour may send to the left; the weights are widened; once both neighbours are ready and the chunks here, the first piece is made. -/
theorem part2 (v6 : BitVec 32) {Q : _ → sProp (MT nD τ sig Unit (Elt F) ℕ UU ℕ)} :
    ctx m K ⊢ iprop(owing c (O₁ c) -∗ dutyTok ER (barCell (src true c)) 0 true -∗ recvAll c true -∗ qPt m c -∗ wAny c -∗ cred (tallyAt (barCell c) () 2) -∗ atPos ER (barCell c) 0 ∅ 0 -∗ tk c (.load 0) -∗ tk c (.load 1) -∗ pieceAny (sM false) c 0
      -∗ ((owe c 0 ∗ qPt m c ∗ wPt m c ∗ semVal (barCell c) 0 ∗ barPay c false ∗ barPay c true ∗ semVal (cell c (.load 0)) 0 ∗ slot c 0 (xh m c 0) ∗ xIn m c 0 ∗ semVal (cell c (.load 1)) 0 ∗ slot c 1 (xh m c 1) ∗ xIn m c 1 ∗ piece (sM false) c 0 (pv m false 0 c)) -∗ Q ⟨⟩)
      -∗ WP c (k0_part2 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v6 (SemArray.scalar (sig.barrier 0 rfl))) Q) := by
  rw [k0_part2_eq_skeleton]; unfold k0_part2_skel
  unfold O₁
  rw [show owedL c hops = owedL c (hops.drop 0) from rfl]
  simp only [semSignalWord, semWaitWord, Prog.lift, Prog.bind_op, Prog.bind_ret, Prog.bind_assoc, Prog.pure_eq_ret, wp_deviceId]
  iintro #Hc HO Hd1 Hr1 Hst Hw HcB HaB Ht0 Ht1 HS00 Hk
  iapply (wp_sig m K c true _ (at_src_true c _ (k0_dev2_eq c)) rfl rfl (owedL c (hops.drop 0))) $$ Hc HO Hd1 Hr1; iintro HO
  iapply (wp_ldStage m c) $$ Hst; iintro Hst
  iapply (wp_putW m c rfl) $$ Hw; iintro Hw
  iapply (wp_ready m K c rfl rfl) $$ Hc HO HcB HaB; iintro ⟨HO, HzB, HB0, HB1⟩
  iapply (wp_waitX m K c 0 (hops.drop 0) rfl rfl) $$ Hc HO Ht0; iintro ⟨HO, Hz0, Hf0, Hx0⟩
  iapply (wp_waitX m K c 1 (hops.drop 0) rfl rfl) $$ Hc HO Ht1; iintro ⟨HO, Hz1, Hf1, Hx1⟩
  iapply (wp_xw m c 0 0 0) $$ Hf0 Hw; iintro ⟨Hf0, Hw⟩
  iapply (wp_fill c 0 (pv m false 0 c) rfl) $$ HS00; iintro HS00
  iapply (wp_done c)
  iapply Hk
  isplitl [HO]; · iexact HO
  isplitl [Hst]; · iexact Hst
  isplitl [Hw]; · iexact Hw
  isplitl [HzB]; · iexact HzB
  isplitl [HB0]; · iexact HB0
  isplitl [HB1]; · iexact HB1
  isplitl [Hz0]; · iexact Hz0
  isplitl [Hf0]; · iexact Hf0
  isplitl [Hx0]; · iexact Hx0
  isplitl [Hz1]; · iexact Hz1
  isplitl [Hf1]; · iexact Hf1
  isplitl [Hx1]; · iexact Hx1
  iexact HS00

/-- The first piece goes right; the first to go left is made. -/
theorem part3 (v4 v6 : BitVec 32) {Q : _ → sProp (MT nD τ sig Unit (Elt F) ℕ UU ℕ)} :
    ctx m K ⊢ iprop(piece (sM false) c 0 (pv m false 0 c) -∗ pieceAny (rM false) (tgt false c) 0 -∗ owe c 0 -∗ sIni c false 0 -∗ slot c 1 (xh m c 1) -∗ wPt m c -∗ pieceAny (sM true) c 0
      -∗ ((owe c 1 ∗ tk c (.send false 0) ∗ slot c 1 (xh m c 1) ∗ wPt m c ∗ piece (sM true) c 0 (pv m true 0 c)) -∗ Q ⟨⟩)
      -∗ WP c (k0_part3 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v4 v6) Q) := by
  rw [k0_part3_eq_skeleton]; unfold k0_part3_skel
  simp only [semSignalWord, semWaitWord, Prog.lift, Prog.bind_op, Prog.bind_ret, Prog.bind_assoc, Prog.pure_eq_ret, wp_deviceId]
  iintro #Hc HS00 HB00 HO HI00 Hf1 Hw HS10 Hk
  iapply (wp_sendN m K c false 0 0 rfl _ (at_nxt c _ (k0_dev3_eq c)) rfl rfl rfl rfl) $$ Hc HS00 HB00 HO HI00
  iintro ⟨HO, HT00⟩
  iapply (wp_xw m c 1 0 1) $$ Hf1 Hw; iintro ⟨Hf1, Hw⟩
  iapply (wp_fill c 0 (pv m true 0 c) rfl) $$ HS10; iintro HS10
  iapply (wp_done c)
  iapply Hk
  isplitl [HO]; · iexact HO
  isplitl [HT00]; · iexact HT00
  isplitl [Hf1]; · iexact Hf1
  isplitl [Hw]; · iexact Hw
  iexact HS10

/-- The first left, the second right; the product for the second left. -/
theorem part4 (v6 : BitVec 32) {Q : _ → sProp (MT nD τ sig Unit (Elt F) ℕ UU ℕ)} :
    ctx m K ⊢ iprop(piece (sM true) c 0 (pv m true 0 c) -∗ pieceAny (rM true) (tgt true c) 0 -∗ owe c 1 -∗ sIni c true 0 -∗ slot c 0 (xh m c 0) -∗ wPt m c -∗ pieceAny (sM false) c 1 -∗ pieceAny (rM false) (tgt false c) 1 -∗ sIni c false 1 -∗ slot c 1 (xh m c 1)
      -∗ ((owe c 3 ∗ tk c (.send true 0) ∗ slot c 0 (xh m c 0) ∗ wPt m c ∗ tk c (.send false 1) ∗ slot c 1 (xh m c 1)) -∗ Q (k0_pay5 (xh m c 1 1) (Wh m c 1)))
      -∗ WP c (k0_part4 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v6) Q) := by
  rw [k0_part4_eq_skeleton]; unfold k0_part4_skel
  simp only [semSignalWord, semWaitWord, Prog.lift, Prog.bind_op, Prog.bind_ret, Prog.bind_assoc, Prog.pure_eq_ret, wp_deviceId]
  iintro #Hc HS10 HB10 HO HI10 Hf0 Hw HS01 HB01 HI01 Hf1 Hk
  iapply (wp_sendN m K c true 0 1 rfl _ (at_prv c _ (k0_dev4_eq c)) rfl rfl rfl rfl) $$ Hc HS10 HB10 HO HI10
  iintro ⟨HO, HT10⟩
  iapply (wp_xw m c 0 1 0) $$ Hf0 Hw; iintro ⟨Hf0, Hw⟩
  iapply (wp_fill c 1 (pv m false 1 c) rfl) $$ HS01; iintro HS01
  iapply (wp_sendN m K c false 1 2 rfl _ (at_nxt c _ (k0_dev5_eq c)) rfl rfl rfl rfl) $$ Hc HS01 HB01 HO HI01
  iintro ⟨HO, HT01⟩
  iapply (wp_xw m c 1 1 1) $$ Hf1 Hw; iintro ⟨Hf1, Hw⟩
  iapply (wp_done c)
  iapply Hk
  isplitl [HO]; · iexact HO
  isplitl [HT10]; · iexact HT10
  isplitl [Hf0]; · iexact Hf0
  isplitl [Hw]; · iexact Hw
  isplitl [HT01]; · iexact HT01
  iexact Hf1

/-- The second left; the other two chunks are fetched; the scale. -/
theorem part5 (v2 v4 v12 : BitVec 32) {Q : _ → sProp (MT nD τ sig Unit (Elt F) ℕ UU ℕ)} :
    ctx m K ⊢ iprop(pieceAny (sM true) c 1 -∗ pieceAny (rM true) (tgt true c) 1 -∗ owe c 3 -∗ sIni c true 1 -∗ xIn m c 2 -∗ slotAny c 2 -∗ ini c (.load 2) -∗ xIn m c 3 -∗ slotAny c 3 -∗ ini c (.load 3) -∗ xPt m c -∗ yPt m c
      -∗ ((owe c 4 ∗ tk c (.send true 1) ∗ tk c (.load 2) ∗ tk c (.load 3) ∗ xPt m c ∗ yPt m c) -∗ Q (scale m c))
      -∗ WP c (k0_part5 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v4 v12 (k0_pay5 (xh m c 1 1) (Wh m c 1))) Q) := by
  rw [k0_part5_eq_skeleton]; unfold k0_part5_skel
  unfold smemLoad smemLoadElt scale
  simp only [semSignalWord, semWaitWord, Prog.lift, Prog.bind_op, Prog.bind_ret, Prog.bind_assoc, Prog.pure_eq_ret, wp_deviceId]
  iintro #Hc HS11 HB11 HO HI11 Hx2 Ha2 Hi2 Hx3 Ha3 Hi3 Hq1 Hq2 Hk
  iapply (wp_fill c 1 (pv m true 1 c) rfl) $$ HS11; iintro HS11
  iapply (wp_sendN m K c true 1 3 rfl _ (at_prv c _ (k0_dev6_eq c)) rfl rfl rfl rfl) $$ Hc HS11 HB11 HO HI11
  iintro ⟨HO, HT11⟩
  iapply (wp_loadX m K c 2 rfl rfl rfl) $$ Hc Hx2 Ha2 Hi2; iintro Ht2
  iapply (wp_loadX m K c 3 rfl rfl rfl) $$ Hc Hx3 Ha3 Hi3; iintro Ht3
  iapply (wp_ldSc c (M := Memref.whole cc0_stg1_0) (sxstg m c) (y := sxstg m c ixS) (sx_read _)) $$ Hq1; iintro Hq1
  iapply (wp_ldSc c (M := Memref.whole cc0_stg2_0) (swstg m c) (y := swstg m c ixS) (sw_read _)) $$ Hq2; iintro Hq2
  iapply (wp_done c)
  iapply Hk
  isplitl [HO]; · iexact HO
  isplitl [HT11]; · iexact HT11
  isplitl [Ht2]; · iexact Ht2
  isplitl [Ht3]; · iexact Ht3
  isplitl [Hq1]; · iexact Hq1
  iexact Hq2

/-- The products of the third chunk. -/
theorem part6 {Q : _ → sProp (MT nD τ sig Unit (Elt F) ℕ UU ℕ)} :
    ctx m K ⊢ iprop(owe c 4 -∗ tk c (.load 2) -∗ wPt m c
      -∗ ((owe c 4 ∗ semVal (cell c (.load 2)) 0 ∗ slot c 2 (xh m c 2) ∗ xIn m c 2 ∗ wPt m c) -∗ Q ⟨k0_pay8 (xh m c 2 0) (Wh m c 0), k0_pay9 (xh m c 2 1) (Wh m c 0), k0_pay10 (xh m c 2 0) (Wh m c 1), k0_pay11 (xh m c 2 1) (Wh m c 1)⟩)
      -∗ WP c (k0_part6 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c) Q) := by
  rw [k0_part6_eq_skeleton]; unfold k0_part6_skel
  simp only [semSignalWord, semWaitWord, Prog.lift, Prog.bind_op, Prog.bind_ret, Prog.bind_assoc, Prog.pure_eq_ret, wp_deviceId]
  iintro #Hc HO Ht2 Hw Hk
  iapply (wp_waitX m K c 2 (hops.drop 4) rfl rfl) $$ Hc HO Ht2; iintro ⟨HO, Hz2, Hf2, Hx2⟩
  iapply (wp_xw m c 2 0 0) $$ Hf2 Hw; iintro ⟨Hf2, Hw⟩
  iapply (wp_xw m c 2 1 0) $$ Hf2 Hw; iintro ⟨Hf2, Hw⟩
  iapply (wp_xw m c 2 0 1) $$ Hf2 Hw; iintro ⟨Hf2, Hw⟩
  iapply (wp_xw m c 2 1 1) $$ Hf2 Hw; iintro ⟨Hf2, Hw⟩
  iapply (wp_done c)
  iapply Hk
  isplitl [HO]; · iexact HO
  isplitl [Hz2]; · iexact Hz2
  isplitl [Hf2]; · iexact Hf2
  isplitl [Hx2]; · iexact Hx2
  iexact Hw

end Ring
-- ==== Proof.PartsB.lean ====
/-
# The parts of the kernel's body: from the second hop to the end

The printed body is a sequence of parts; each lemma here runs one of them at an arbitrary device `c`, from what it needs to
what it leaves.
-/
module

public import proofs.«01_k».proof.Proof.PartsA

@[expose] public section

noncomputable section

namespace Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit tileCredit_pos)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option Role → ℕ) (c : Dev nD)

/-- A finished slot is copied to the column half its direction carries. -/
theorem wp_outD (h : Fin 2) (j : Fin 4) (hj : (if h = 0 then (0 : Fin 4) else 1) = j) (d : Bool) (hd : dirOf h = d)
    {α : Type} {Q : α → sProp (MT nD τ sig Unit (Elt F) ℕ UU ℕ)}
    {s : Memref sig .tc .vmem S1024x1024 .f32} (hs : s = slotM j)
    {r : Memref sig .tc .hbm S1024x1024 .f32} (hr : r = outM h) {q : DmaSem sig} (hq : q = sem (.out h))
    {hsrc : s.view.WordExact} {hdst : r.view.WordExact} {hsem : DmaTarget.Typed (nD := nD) (p := (.tc : Proc τ)) .vmem (.dma q) (.here r)}
    {kk : PUnit → Prog (TpuEff nD τ sig (Elt F) Λ₀ .tc) α} :
    ctx m K ⊢ iprop((slot c j (outv m c d)) -∗ (outAny c h) -∗ (ini c (.out h))
      -∗ (tk c (.out h) -∗ WP c (kk ⟨⟩) Q) -∗ WP c (.op (.enqueueDma s (.here r) (.dma q) hsrc hdst hsem) kk) Q) := by
  subst hd
  exact wp_outX m K c h j hj hs hr hq

/-- A store fills a piece with a given value. -/
theorem wp_stX {α : Type} {Q : α → sProp (MT nD τ sig Unit (Elt F) ℕ UU ℕ)} {M : Memref sig .tc .vmem S3x1024x1024 .bf16} (k : Fin 6) (X : Vec F S1x512x1024 .bf16)
    {w : Vec F S1x512x1024 .bf16} (hw : w = X)
    {hx : (M.access (pieceRect k)).Stores Finset.univ} {hm : (Finset.univ : Finset (pieceRect k).shape.Idx) = Finset.univ ∨ ∀ a, (pieceRect k).stride a = 1}
    {kk : PUnit → Prog (TpuEff nD τ sig (Elt F) Λ₀ .tc) α} :
    pieceAny M c k ⊢ iprop((piece M c k X -∗ WP c (kk ⟨⟩) Q) -∗ WP c (.op (.store M (pieceRect k) w Finset.univ hx hm) kk) Q) := by
  subst hw
  exact wp_stP c k

/-- Half 0 is relayed right. -/
theorem part7 (v6 : BitVec 32) {Q : _ → sProp (MT nD τ sig Unit (Elt F) ℕ UU ℕ)} :
    ctx m K ⊢ iprop(owe c 4 -∗ tk c (.recv false 0) -∗ pieceAny (sM false) c 2 -∗ pieceAny (rM false) (tgt false c) 2 -∗ sIni c false 2
      -∗ ((owe c 5 ∗ semVal (cell c (.recv false 0)) 0 ∗ piece (rM false) c 0 (pv m false 0 (src false c)) ∗ tk c (.send false 2)) -∗ Q ⟨⟩)
      -∗ WP c (k0_part7 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v6 (k0_pay8 (xh m c 2 0) (Wh m c 0))) Q) := by
  rw [k0_part7_eq_skeleton]; unfold k0_part7_skel
  simp only [semSignalWord, semWaitWord, Prog.lift, Prog.bind_op, Prog.bind_ret, Prog.bind_assoc, Prog.pure_eq_ret, wp_deviceId]
  iintro #Hc HO HV00 HS02 HB02 HI02 Hk
  iapply (wp_waitP m K c false 0 (hops.drop 4) (by decide) rfl rfl) $$ Hc HO HV00
  iintro ⟨HO, HZr00, HR00⟩
  iapply (wp_ldP c 0) $$ HR00; iintro HR00
  iapply (wp_fill c 2 (pv m false 2 c) rfl) $$ HS02; iintro HS02
  iapply (wp_sendN m K c false 2 4 rfl _ (at_nxt c _ (k0_dev7_eq c)) rfl rfl rfl rfl) $$ Hc HS02 HB02 HO HI02
  iintro ⟨HO, HT02⟩
  iapply (wp_done c)
  iapply Hk
  isplitl [HO]; · iexact HO
  isplitl [HZr00]; · iexact HZr00
  isplitl [HR00]; · iexact HR00
  iexact HT02

/-- Half 0 is relayed left. -/
theorem part8 (v4 : BitVec 32) {Q : _ → sProp (MT nD τ sig Unit (Elt F) ℕ UU ℕ)} :
    ctx m K ⊢ iprop(owe c 5 -∗ tk c (.recv true 0) -∗ pieceAny (sM true) c 2 -∗ pieceAny (rM true) (tgt true c) 2 -∗ sIni c true 2
      -∗ ((owe c 6 ∗ semVal (cell c (.recv true 0)) 0 ∗ piece (rM true) c 0 (pv m true 0 (src true c)) ∗ tk c (.send true 2)) -∗ Q 1#32)
      -∗ WP c (k0_part8 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v4 (k0_pay10 (xh m c 2 0) (Wh m c 1))) Q) := by
  rw [k0_part8_eq_skeleton]; unfold k0_part8_skel
  simp only [semSignalWord, semWaitWord, Prog.lift, Prog.bind_op, Prog.bind_ret, Prog.bind_assoc, Prog.pure_eq_ret, wp_deviceId]
  iintro #Hc HO HV10 HS12 HB12 HI12 Hk
  iapply (wp_waitP m K c true 0 (hops.drop 5) (by decide) rfl rfl) $$ Hc HO HV10
  iintro ⟨HO, HZr10, HR10⟩
  iapply (wp_ldP c 0) $$ HR10; iintro HR10
  iapply (wp_fill c 2 (pv m true 2 c) rfl) $$ HS12; iintro HS12
  iapply (wp_sendN m K c true 2 5 rfl _ (at_prv c _ (k0_dev8_eq c)) rfl rfl rfl rfl) $$ Hc HS12 HB12 HO HI12
  iintro ⟨HO, HT12⟩
  iapply (wp_done c)
  iapply Hk
  isplitl [HO]; · iexact HO
  isplitl [HZr10]; · iexact HZr10
  isplitl [HR10]; · iexact HR10
  iexact HT12

/-- Half 1 is relayed right. -/
theorem part9 (v4 v6 v9 : BitVec 32) {Q : _ → sProp (MT nD τ sig Unit (Elt F) ℕ UU ℕ)} :
    ctx m K ⊢ iprop(owe c 6 -∗ tk c (.recv false 1) -∗ pieceAny (sM false) c 3 -∗ pieceAny (rM false) (tgt false c) 3 -∗ sIni c false 3
      -∗ ((owe c 7 ∗ semVal (cell c (.recv false 1)) 0 ∗ piece (rM false) c 1 (pv m false 1 (src false c)) ∗ tk c (.send false 3)) -∗ Q ⟨⟩)
      -∗ WP c (k0_part9 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v4 v6 (k0_pay9 (xh m c 2 1) (Wh m c 0)) v9) Q) := by
  rw [k0_part9_eq_skeleton]; unfold k0_part9_skel
  simp only [semSignalWord, semWaitWord, Prog.lift, Prog.bind_op, Prog.bind_ret, Prog.bind_assoc, Prog.pure_eq_ret, wp_deviceId]
  iintro #Hc HO HV01 HS03 HB03 HI03 Hk
  iapply (wp_waitP m K c false 1 (hops.drop 6) (by decide) rfl rfl) $$ Hc HO HV01
  iintro ⟨HO, HZr01, HR01⟩
  iapply (wp_ldP c 1) $$ HR01; iintro HR01
  iapply (wp_fill c 3 (pv m false 3 c) rfl) $$ HS03; iintro HS03
  iapply (wp_sendN m K c false 3 6 rfl _ (at_nxt c _ (k0_dev9_eq c)) rfl rfl rfl rfl) $$ Hc HS03 HB03 HO HI03
  iintro ⟨HO, HT03⟩
  iapply (wp_done c)
  iapply Hk
  isplitl [HO]; · iexact HO
  isplitl [HZr01]; · iexact HZr01
  isplitl [HR01]; · iexact HR01
  iexact HT03

/-- Half 1 is relayed left; a product for the last step. -/
theorem part10 (v4 : BitVec 32) {Q : _ → sProp (MT nD τ sig Unit (Elt F) ℕ UU ℕ)} :
    ctx m K ⊢ iprop(owe c 7 -∗ tk c (.recv true 1) -∗ pieceAny (sM true) c 3 -∗ pieceAny (rM true) (tgt true c) 3 -∗ sIni c true 3 -∗ slot c 1 (xh m c 1) -∗ wPt m c
      -∗ ((owe c 8 ∗ semVal (cell c (.recv true 1)) 0 ∗ piece (rM true) c 1 (pv m true 1 (src true c)) ∗ tk c (.send true 3) ∗ slot c 1 (xh m c 1) ∗ wPt m c) -∗ Q (k0_pay16 (xh m c 1 0) (Wh m c 0)))
      -∗ WP c (k0_part10 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v4 (k0_pay11 (xh m c 2 1) (Wh m c 1))) Q) := by
  rw [k0_part10_eq_skeleton]; unfold k0_part10_skel
  simp only [semSignalWord, semWaitWord, Prog.lift, Prog.bind_op, Prog.bind_ret, Prog.bind_assoc, Prog.pure_eq_ret, wp_deviceId]
  iintro #Hc HO HV11 HS13 HB13 HI13 Hf1 Hw Hk
  iapply (wp_waitP m K c true 1 (hops.drop 7) (by decide) rfl rfl) $$ Hc HO HV11
  iintro ⟨HO, HZr11, HR11⟩
  iapply (wp_ldP c 1) $$ HR11; iintro HR11
  iapply (wp_fill c 3 (pv m true 3 c) rfl) $$ HS13; iintro HS13
  iapply (wp_sendN m K c true 3 7 rfl _ (at_prv c _ (k0_dev10_eq c)) rfl rfl rfl rfl) $$ Hc HS13 HB13 HO HI13
  iintro ⟨HO, HT13⟩
  iapply (wp_xw m c 1 0 0) $$ Hf1 Hw; iintro ⟨Hf1, Hw⟩
  iapply (wp_done c)
  iapply Hk
  isplitl [HO]; · iexact HO
  isplitl [HZr11]; · iexact HZr11
  isplitl [HR11]; · iexact HR11
  isplitl [HT13]; · iexact HT13
  isplitl [Hf1]; · iexact Hf1
  iexact Hw

/-- The other products for the last step; the first piece of the second hop arrives. -/
theorem part11 (v6 : BitVec 32) {Q : _ → sProp (MT nD τ sig Unit (Elt F) ℕ UU ℕ)} :
    ctx m K ⊢ iprop(slot c 1 (xh m c 1) -∗ wPt m c -∗ slot c 0 (xh m c 0) -∗ owe c 8 -∗ tk c (.recv false 2)
      -∗ ((slot c 1 (xh m c 1) ∗ wPt m c ∗ slot c 0 (xh m c 0) ∗ owe c 8 ∗ semVal (cell c (.recv false 2)) 0 ∗ piece (rM false) c 2 (pv m false 2 (src false c))) -∗ Q ⟨k0_pay17 (xh m c 1 1) (Wh m c 0), k0_pay18 (xh m c 0 0) (Wh m c 1), k0_pay19 (xh m c 0 1) (Wh m c 1), pv m false 2 (src false c)⟩)
      -∗ WP c (k0_part11 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v6) Q) := by
  rw [k0_part11_eq_skeleton]; unfold k0_part11_skel
  simp only [semSignalWord, semWaitWord, Prog.lift, Prog.bind_op, Prog.bind_ret, Prog.bind_assoc, Prog.pure_eq_ret, wp_deviceId]
  iintro #Hc Hf1 Hw Hf0 HO HV02 Hk
  iapply (wp_xw m c 1 1 0) $$ Hf1 Hw; iintro ⟨Hf1, Hw⟩
  iapply (wp_xw m c 0 0 1) $$ Hf0 Hw; iintro ⟨Hf0, Hw⟩
  iapply (wp_xw m c 0 1 1) $$ Hf0 Hw; iintro ⟨Hf0, Hw⟩
  iapply (wp_waitP m K c false 2 (hops.drop 8) (by decide) rfl rfl) $$ Hc HO HV02
  iintro ⟨HO, HZr02, HR02⟩
  iapply (wp_ldP c 2) $$ HR02; iintro HR02
  iapply (wp_done c)
  iapply Hk
  isplitl [Hf1]; · iexact Hf1
  isplitl [Hw]; · iexact Hw
  isplitl [Hf0]; · iexact Hf0
  isplitl [HO]; · iexact HO
  isplitl [HZr02]; · iexact HZr02
  iexact HR02

/-- Half 0 is relayed right again; the sum to go left. -/
theorem part12 (v4 v6 : BitVec 32) {Q : _ → sProp (MT nD τ sig Unit (Elt F) ℕ UU ℕ)} :
    ctx m K ⊢ iprop(pieceAny (sM false) c 4 -∗ pieceAny (rM false) (tgt false c) 4 -∗ owe c 8 -∗ sIni c false 4 -∗ tk c (.recv true 2)
      -∗ ((owe c 9 ∗ tk c (.send false 4) ∗ semVal (cell c (.recv true 2)) 0 ∗ piece (rM true) c 2 (pv m true 2 (src true c))) -∗ Q (k0_pay21 (k0_pay18 (xh m c 0 0) (Wh m c 1)) (pv m true 2 (src true c))))
      -∗ WP c (k0_part12 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v4 v6 (k0_pay16 (xh m c 1 0) (Wh m c 0)) (k0_pay18 (xh m c 0 0) (Wh m c 1)) (pv m false 2 (src false c))) Q) := by
  rw [k0_part12_eq_skeleton]; unfold k0_part12_skel
  simp only [semSignalWord, semWaitWord, Prog.lift, Prog.bind_op, Prog.bind_ret, Prog.bind_assoc, Prog.pure_eq_ret, wp_deviceId]
  iintro #Hc HS04 HB04 HO HI04 HV12 Hk
  iapply (wp_fill c 4 (pv m false 4 c) rfl) $$ HS04; iintro HS04
  iapply (wp_sendN m K c false 4 8 rfl _ (at_nxt c _ (k0_dev11_eq c)) rfl rfl rfl rfl) $$ Hc HS04 HB04 HO HI04
  iintro ⟨HO, HT04⟩
  iapply (wp_waitP m K c true 2 (hops.drop 9) (by decide) rfl rfl) $$ Hc HO HV12
  iintro ⟨HO, HZr12, HR12⟩
  iapply (wp_ldP c 2) $$ HR12; iintro HR12
  iapply (wp_done c)
  iapply Hk
  isplitl [HO]; · iexact HO
  isplitl [HT04]; · iexact HT04
  isplitl [HZr12]; · iexact HZr12
  iexact HR12

/-- Half 0 is relayed left again; the sum of half 1 to go right. -/
theorem part13 (v4 v6 : BitVec 32) {Q : _ → sProp (MT nD τ sig Unit (Elt F) ℕ UU ℕ)} :
    ctx m K ⊢ iprop(pieceAny (sM true) c 4 -∗ pieceAny (rM true) (tgt true c) 4 -∗ owe c 9 -∗ sIni c true 4 -∗ tk c (.recv false 3) -∗ pieceAny (sM false) c 5
      -∗ (∀ X, (owe c 10 ∗ tk c (.send true 4) ∗ semVal (cell c (.recv false 3)) 0 ∗ piece (rM false) c 3 (pv m false 3 (src false c)) ∗ pieceAny (sM false) c 5) -∗ Q ⟨k0_pay23 (k0_pay17 (xh m c 1 1) (Wh m c 0)) (pv m false 3 (src false c)), X⟩)
      -∗ WP c (k0_part13 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v4 v6 (k0_pay17 (xh m c 1 1) (Wh m c 0)) (k0_pay21 (k0_pay18 (xh m c 0 0) (Wh m c 1)) (pv m true 2 (src true c)))) Q) := by
  rw [k0_part13_eq_skeleton]; unfold k0_part13_skel
  simp only [semSignalWord, semWaitWord, Prog.lift, Prog.bind_op, Prog.bind_ret, Prog.bind_assoc, Prog.pure_eq_ret, wp_deviceId]
  iintro #Hc HS14 HB14 HO HI14 HV03 HS05 Hk
  iapply (wp_fill c 4 (pv m true 4 c) rfl) $$ HS14; iintro HS14
  iapply (wp_sendN m K c true 4 9 rfl _ (at_prv c _ (k0_dev12_eq c)) rfl rfl rfl rfl) $$ Hc HS14 HB14 HO HI14
  iintro ⟨HO, HT14⟩
  iapply (wp_waitP m K c false 3 (hops.drop 10) (by decide) rfl rfl) $$ Hc HO HV03
  iintro ⟨HO, HZr03, HR03⟩
  iapply (wp_ldP c 3) $$ HR03; iintro HR03
  iapply (wp_ldA c 5) $$ HS05; iintro %X HS05
  iapply (wp_done c)
  iapply Hk
  isplitl [HO]; · iexact HO
  isplitl [HT14]; · iexact HT14
  isplitl [HZr03]; · iexact HZr03
  isplitl [HR03]; · iexact HR03
  iexact HS05

/-- Half 1 is relayed right again; that to go left is made. -/
theorem part14 (v4 v6 : BitVec 32) (X : Vec F S1x512x1024 .bf16) {Q : _ → sProp (MT nD τ sig Unit (Elt F) ℕ UU ℕ)} :
    ctx m K ⊢ iprop(pieceAny (sM false) c 5 -∗ pieceAny (rM false) (tgt false c) 5 -∗ owe c 10 -∗ sIni c false 5 -∗ tk c (.recv true 3) -∗ pieceAny (sM true) c 5
      -∗ ((owe c 11 ∗ tk c (.send false 5) ∗ semVal (cell c (.recv true 3)) 0 ∗ piece (rM true) c 3 (pv m true 3 (src true c)) ∗ piece (sM true) c 5 (pv m true 5 c)) -∗ Q ⟨⟩)
      -∗ WP c (k0_part14 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v4 v6 (k0_pay19 (xh m c 0 1) (Wh m c 1)) (k0_pay23 (k0_pay17 (xh m c 1 1) (Wh m c 0)) (pv m false 3 (src false c))) X) Q) := by
  rw [k0_part14_eq_skeleton]; unfold k0_part14_skel
  simp only [semSignalWord, semWaitWord, Prog.lift, Prog.bind_op, Prog.bind_ret, Prog.bind_assoc, Prog.pure_eq_ret, wp_deviceId]
  iintro #Hc HS05 HB05 HO HI05 HV13 HS15 Hk
  iapply (wp_stX c 5 (pv m false 5 c) rfl) $$ HS05; iintro HS05
  iapply (wp_sendN m K c false 5 10 rfl _ (at_nxt c _ (k0_dev13_eq c)) rfl rfl rfl rfl) $$ Hc HS05 HB05 HO HI05
  iintro ⟨HO, HT05⟩
  iapply (wp_waitP m K c true 3 (hops.drop 11) (by decide) rfl rfl) $$ Hc HO HV13
  iintro ⟨HO, HZr13, HR13⟩
  iapply (wp_ldP c 3) $$ HR13; iintro HR13
  iapply (wp_fill c 5 (pv m true 5 c) rfl) $$ HS15; iintro HS15
  iapply (wp_done c)
  iapply Hk
  isplitl [HO]; · iexact HO
  isplitl [HT05]; · iexact HT05
  isplitl [HZr13]; · iexact HZr13
  isplitl [HR13]; · iexact HR13
  iexact HS15

/-- The last send; the products of the own chunk. -/
theorem part15 (v4 : BitVec 32) {Q : _ → sProp (MT nD τ sig Unit (Elt F) ℕ UU ℕ)} :
    ctx m K ⊢ iprop(piece (sM true) c 5 (pv m true 5 c) -∗ pieceAny (rM true) (tgt true c) 5 -∗ owe c 11 -∗ sIni c true 5 -∗ tk c (.load 3) -∗ wPt m c
      -∗ ((owe c 12 ∗ tk c (.send true 5) ∗ semVal (cell c (.load 3)) 0 ∗ slot c 3 (xh m c 3) ∗ xIn m c 3 ∗ wPt m c) -∗ Q ⟨k0_pay26 (xh m c 3 0) (Wh m c 0), k0_pay27 (xh m c 3 1) (Wh m c 0), xh m c 3 0⟩)
      -∗ WP c (k0_part15 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v4) Q) := by
  rw [k0_part15_eq_skeleton]; unfold k0_part15_skel
  simp only [semSignalWord, semWaitWord, Prog.lift, Prog.bind_op, Prog.bind_ret, Prog.bind_assoc, Prog.pure_eq_ret, wp_deviceId]
  iintro #Hc HS15 HB15 HO HI15 Ht3 Hw Hk
  iapply (wp_sendN m K c true 5 11 rfl _ (at_prv c _ (k0_dev14_eq c)) rfl rfl rfl rfl) $$ Hc HS15 HB15 HO HI15
  iintro ⟨HO, HT15⟩
  iapply (wp_waitX m K c 3 (hops.drop 12) rfl rfl) $$ Hc HO Ht3; iintro ⟨HO, Hz3, Hf3, Hx3⟩
  iapply (wp_xw m c 3 0 0) $$ Hf3 Hw; iintro ⟨Hf3, Hw⟩
  iapply (wp_xw m c 3 1 0) $$ Hf3 Hw; iintro ⟨Hf3, Hw⟩
  iapply (wp_ldS c 3 0) $$ Hf3; iintro Hf3
  iapply (wp_done c)
  iapply Hk
  isplitl [HO]; · iexact HO
  isplitl [HT15]; · iexact HT15
  isplitl [Hz3]; · iexact Hz3
  isplitl [Hf3]; · iexact Hf3
  isplitl [Hx3]; · iexact Hx3
  iexact Hw

/-- Half 0 of the left columns is finished. -/
theorem part16 (v6 : BitVec 32) {Q : _ → sProp (MT nD τ sig Unit (Elt F) ℕ UU ℕ)} :
    ctx m K ⊢ iprop(wPt m c -∗ slot c 3 (xh m c 3) -∗ owe c 12 -∗ tk c (.recv false 4) -∗ slot c 0 (xh m c 0)
      -∗ ((wPt m c ∗ slot c 3 (xh m c 3) ∗ owe c 12 ∗ semVal (cell c (.recv false 4)) 0 ∗ piece (rM false) c 4 (pv m false 4 (src false c)) ∗ slot c 0 (Function.update (xh m c 0) 0 (outv m c false 0))) -∗ Q ⟨k0_pay28 (xh m c 3 0) (Wh m c 1), k0_pay29 (xh m c 3 1) (Wh m c 1)⟩)
      -∗ WP c (k0_part16 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v6 (scale m c) (k0_pay26 (xh m c 3 0) (Wh m c 0)) (xh m c 3 0)) Q) := by
  rw [k0_part16_eq_skeleton]; unfold k0_part16_skel
  simp only [semSignalWord, semWaitWord, Prog.lift, Prog.bind_op, Prog.bind_ret, Prog.bind_assoc, Prog.pure_eq_ret, wp_deviceId]
  iintro #Hc Hw Hf3 HO HV04 Hf0 Hk
  iapply (wp_ldW m c 1) $$ Hw; iintro Hw
  iapply (wp_xw m c 3 1 1) $$ Hf3 Hw; iintro ⟨Hf3, Hw⟩
  iapply (wp_waitP m K c false 4 (hops.drop 12) (by decide) rfl rfl) $$ Hc HO HV04
  iintro ⟨HO, HZr04, HR04⟩
  iapply (wp_ldP c 4) $$ HR04; iintro HR04
  iapply (wp_fillS c 0 0 (outv m c false 0) rfl) $$ Hf0; iintro Hf0
  iapply (wp_done c)
  iapply Hk
  isplitl [Hw]; · iexact Hw
  isplitl [Hf3]; · iexact Hf3
  isplitl [HO]; · iexact HO
  isplitl [HZr04]; · iexact HZr04
  isplitl [HR04]; · iexact HR04
  iexact Hf0

/-- Half 0 of the right columns is finished. -/
theorem part17 (v4 v6 : BitVec 32) {Q : _ → sProp (MT nD τ sig Unit (Elt F) ℕ UU ℕ)} :
    ctx m K ⊢ iprop(owe c 12 -∗ tk c (.recv true 4) -∗ slot c 1 (xh m c 1) -∗ tk c (.recv false 5)
      -∗ ((owe c 12 ∗ semVal (cell c (.recv true 4)) 0 ∗ piece (rM true) c 4 (pv m true 4 (src true c)) ∗ slot c 1 (Function.update (xh m c 1) 0 (outv m c true 0)) ∗ semVal (cell c (.recv false 5)) 0 ∗ piece (rM false) c 5 (pv m false 5 (src false c))) -∗ Q ⟨⟩)
      -∗ WP c (k0_part17 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v4 v6 (scale m c) (k0_pay28 (xh m c 3 0) (Wh m c 1))) Q) := by
  rw [k0_part17_eq_skeleton]; unfold k0_part17_skel
  simp only [semSignalWord, semWaitWord, Prog.lift, Prog.bind_op, Prog.bind_ret, Prog.bind_assoc, Prog.pure_eq_ret, wp_deviceId]
  iintro #Hc HO HV14 Hf1 HV05 Hk
  iapply (wp_waitP m K c true 4 (hops.drop 12) (by decide) rfl rfl) $$ Hc HO HV14
  iintro ⟨HO, HZr14, HR14⟩
  iapply (wp_ldP c 4) $$ HR14; iintro HR14
  iapply (wp_fillS c 1 0 (outv m c true 0) rfl) $$ Hf1; iintro Hf1
  iapply (wp_waitP m K c false 5 (hops.drop 12) (by decide) rfl rfl) $$ Hc HO HV05
  iintro ⟨HO, HZr05, HR05⟩
  iapply (wp_done c)
  iapply Hk
  isplitl [HO]; · iexact HO
  isplitl [HZr14]; · iexact HZr14
  isplitl [HR14]; · iexact HR14
  isplitl [Hf1]; · iexact Hf1
  isplitl [HZr05]; · iexact HZr05
  iexact HR05

/-- Half 1 of both column halves is finished. -/
theorem part18 (v4 : BitVec 32) {Q : _ → sProp (MT nD τ sig Unit (Elt F) ℕ UU ℕ)} :
    ctx m K ⊢ iprop(piece (rM false) c 5 (pv m false 5 (src false c)) -∗ slot c 0 (Function.update (xh m c 0) 0 (outv m c false 0)) -∗ owe c 12 -∗ tk c (.recv true 5) -∗ slot c 1 (Function.update (xh m c 1) 0 (outv m c true 0))
      -∗ ((piece (rM false) c 5 (pv m false 5 (src false c)) ∗ slot c 0 (outv m c false) ∗ owe c 12 ∗ semVal (cell c (.recv true 5)) 0 ∗ piece (rM true) c 5 (pv m true 5 (src true c)) ∗ slot c 1 (outv m c true)) -∗ Q ⟨⟩)
      -∗ WP c (k0_part18 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v4 (scale m c) (k0_pay27 (xh m c 3 1) (Wh m c 0)) (k0_pay29 (xh m c 3 1) (Wh m c 1))) Q) := by
  rw [k0_part18_eq_skeleton]; unfold k0_part18_skel
  simp only [semSignalWord, semWaitWord, Prog.lift, Prog.bind_op, Prog.bind_ret, Prog.bind_assoc, Prog.pure_eq_ret, wp_deviceId]
  iintro #Hc HR05 Hf0 HO HV15 Hf1 Hk
  iapply (wp_ldP c 5) $$ HR05; iintro HR05
  iapply (wp_fillS c 0 1 (outv m c false 1) rfl) $$ Hf0; iintro Hf0
  ihave Hf0 := (Entails.of_eq (slot_both c 0 (xh m c 0) (outv m c false))) $$ Hf0
  iapply (wp_waitP m K c true 5 (hops.drop 12) (by decide) rfl rfl) $$ Hc HO HV15
  iintro ⟨HO, HZr15, HR15⟩
  iapply (wp_ldP c 5) $$ HR15; iintro HR15
  iapply (wp_fillS c 1 1 (outv m c true 1) rfl) $$ Hf1; iintro Hf1
  ihave Hf1 := (Entails.of_eq (slot_both c 1 (xh m c 1) (outv m c true))) $$ Hf1
  iapply (wp_done c)
  iapply Hk
  isplitl [HR05]; · iexact HR05
  isplitl [Hf0]; · iexact Hf0
  isplitl [HO]; · iexact HO
  isplitl [HZr15]; · iexact HZr15
  isplitl [HR15]; · iexact HR15
  iexact Hf1

/-- Both column halves are copied to the result. -/
theorem part19 {Q : _ → sProp (MT nD τ sig Unit (Elt F) ℕ UU ℕ)} :
    ctx m K ⊢ iprop(slot c 0 (outv m c false) -∗ outAny c 0 -∗ ini c (.out 0) -∗ slot c 1 (outv m c true) -∗ outAny c 1 -∗ ini c (.out 1) -∗ owe c 12
      -∗ ((slot c 0 (outv m c false) ∗ outP c 0 (joinH (outv m c false)) ∗ slot c 1 (outv m c true) ∗ outP c 1 (joinH (outv m c true)) ∗ owe c 12 ∗ semVal (cell c (.out 0)) 0 ∗ semVal (cell c (.out 1)) 0) -∗ Q ⟨⟩)
      -∗ WP c (k0_part19 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q) := by
  rw [k0_part19_eq_skeleton]; unfold k0_part19_skel
  simp only [semSignalWord, semWaitWord, Prog.lift, Prog.bind_op, Prog.bind_ret, Prog.bind_assoc, Prog.pure_eq_ret, wp_deviceId]
  iintro #Hc Hf0 Hp0 Ho0 Hf1 Hp1 Ho1 HO Hk
  iapply (wp_outD m K c 0 0 rfl false rfl rfl rfl rfl) $$ Hc Hf0 Hp0 Ho0; iintro Ho0
  iapply (wp_outD m K c 1 1 rfl true rfl rfl rfl rfl) $$ Hc Hf1 Hp1 Ho1; iintro Ho1
  iapply (wp_waitO m K c 0 0 rfl false rfl (hops.drop 12) rfl rfl) $$ Hc HO Ho0; iintro ⟨HO, Hzo0, Hp0, Hf0⟩
  iapply (wp_waitO m K c 1 1 rfl true rfl (hops.drop 12) rfl rfl) $$ Hc HO Ho1; iintro ⟨HO, Hzo1, Hp1, Hf1⟩
  iapply (wp_done c)
  iapply Hk
  isplitl [Hf0]; · iexact Hf0
  isplitl [Hp0]; · iexact Hp0
  isplitl [Hf1]; · iexact Hf1
  isplitl [Hp1]; · iexact Hp1
  isplitl [HO]; · iexact HO
  isplitl [Hzo0]; · iexact Hzo0
  iexact Hzo1

/-- Sent pieces are waited for. -/
theorem part20 {Q : _ → sProp (MT nD τ sig Unit (Elt F) ℕ UU ℕ)} :
    ctx m K ⊢ iprop(owe c 12 -∗ tk c (.send false 0) -∗ tk c (.send true 0) -∗ tk c (.send false 1) -∗ tk c (.send true 1)
      -∗ ((owe c 12 ∗ semVal (cell c (.send false 0)) 0 ∗ piece (sM false) c 0 (pv m false 0 c) ∗ semVal (cell c (.send true 0)) 0 ∗ piece (sM true) c 0 (pv m true 0 c) ∗ semVal (cell c (.send false 1)) 0 ∗ piece (sM false) c 1 (pv m false 1 c) ∗ semVal (cell c (.send true 1)) 0 ∗ piece (sM true) c 1 (pv m true 1 c)) -∗ Q ⟨⟩)
      -∗ WP c (k0_part20 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q) := by
  rw [k0_part20_eq_skeleton]; unfold k0_part20_skel
  simp only [semSignalWord, semWaitWord, Prog.lift, Prog.bind_op, Prog.bind_ret, Prog.bind_assoc, Prog.pure_eq_ret, wp_deviceId]
  iintro #Hc HO HT00 HT10 HT01 HT11 Hk
  iapply (wp_waitS m K c false 0 (hops.drop 12) rfl rfl) $$ Hc HO HT00
  iintro ⟨HO, HZs00, HS00⟩
  iapply (wp_waitS m K c true 0 (hops.drop 12) rfl rfl) $$ Hc HO HT10
  iintro ⟨HO, HZs10, HS10⟩
  iapply (wp_waitS m K c false 1 (hops.drop 12) rfl rfl) $$ Hc HO HT01
  iintro ⟨HO, HZs01, HS01⟩
  iapply (wp_waitS m K c true 1 (hops.drop 12) rfl rfl) $$ Hc HO HT11
  iintro ⟨HO, HZs11, HS11⟩
  iapply (wp_done c)
  iapply Hk
  isplitl [HO]; · iexact HO
  isplitl [HZs00]; · iexact HZs00
  isplitl [HS00]; · iexact HS00
  isplitl [HZs10]; · iexact HZs10
  isplitl [HS10]; · iexact HS10
  isplitl [HZs01]; · iexact HZs01
  isplitl [HS01]; · iexact HS01
  isplitl [HZs11]; · iexact HZs11
  iexact HS11

/-- Sent pieces are waited for. -/
theorem part21 {Q : _ → sProp (MT nD τ sig Unit (Elt F) ℕ UU ℕ)} :
    ctx m K ⊢ iprop(owe c 12 -∗ tk c (.send false 2) -∗ tk c (.send true 2) -∗ tk c (.send false 3)
      -∗ ((owe c 12 ∗ semVal (cell c (.send false 2)) 0 ∗ piece (sM false) c 2 (pv m false 2 c) ∗ semVal (cell c (.send true 2)) 0 ∗ piece (sM true) c 2 (pv m true 2 c) ∗ semVal (cell c (.send false 3)) 0 ∗ piece (sM false) c 3 (pv m false 3 c)) -∗ Q ⟨⟩)
      -∗ WP c (k0_part21 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q) := by
  rw [k0_part21_eq_skeleton]; unfold k0_part21_skel
  simp only [semSignalWord, semWaitWord, Prog.lift, Prog.bind_op, Prog.bind_ret, Prog.bind_assoc, Prog.pure_eq_ret, wp_deviceId]
  iintro #Hc HO HT02 HT12 HT03 Hk
  iapply (wp_waitS m K c false 2 (hops.drop 12) rfl rfl) $$ Hc HO HT02
  iintro ⟨HO, HZs02, HS02⟩
  iapply (wp_waitS m K c true 2 (hops.drop 12) rfl rfl) $$ Hc HO HT12
  iintro ⟨HO, HZs12, HS12⟩
  iapply (wp_waitS m K c false 3 (hops.drop 12) rfl rfl) $$ Hc HO HT03
  iintro ⟨HO, HZs03, HS03⟩
  iapply (wp_done c)
  iapply Hk
  isplitl [HO]; · iexact HO
  isplitl [HZs02]; · iexact HZs02
  isplitl [HS02]; · iexact HS02
  isplitl [HZs12]; · iexact HZs12
  isplitl [HS12]; · iexact HS12
  isplitl [HZs03]; · iexact HZs03
  iexact HS03

/-- Sent pieces are waited for. -/
theorem part22 {Q : _ → sProp (MT nD τ sig Unit (Elt F) ℕ UU ℕ)} :
    ctx m K ⊢ iprop(owe c 12 -∗ tk c (.send true 3) -∗ tk c (.send false 4) -∗ tk c (.send true 4)
      -∗ ((owe c 12 ∗ semVal (cell c (.send true 3)) 0 ∗ piece (sM true) c 3 (pv m true 3 c) ∗ semVal (cell c (.send false 4)) 0 ∗ piece (sM false) c 4 (pv m false 4 c) ∗ semVal (cell c (.send true 4)) 0 ∗ piece (sM true) c 4 (pv m true 4 c)) -∗ Q ⟨⟩)
      -∗ WP c (k0_part22 xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q) := by
  rw [k0_part22_eq_skeleton]; unfold k0_part22_skel
  simp only [semSignalWord, semWaitWord, Prog.lift, Prog.bind_op, Prog.bind_ret, Prog.bind_assoc, Prog.pure_eq_ret, wp_deviceId]
  iintro #Hc HO HT13 HT04 HT14 Hk
  iapply (wp_waitS m K c true 3 (hops.drop 12) rfl rfl) $$ Hc HO HT13
  iintro ⟨HO, HZs13, HS13⟩
  iapply (wp_waitS m K c false 4 (hops.drop 12) rfl rfl) $$ Hc HO HT04
  iintro ⟨HO, HZs04, HS04⟩
  iapply (wp_waitS m K c true 4 (hops.drop 12) rfl rfl) $$ Hc HO HT14
  iintro ⟨HO, HZs14, HS14⟩
  iapply (wp_done c)
  iapply Hk
  isplitl [HO]; · iexact HO
  isplitl [HZs13]; · iexact HZs13
  isplitl [HS13]; · iexact HS13
  isplitl [HZs04]; · iexact HZs04
  isplitl [HS04]; · iexact HS04
  isplitl [HZs14]; · iexact HZs14
  iexact HS14

end Ring
-- ==== Proof.Body.lean ====
/-
# The parts of the kernel's body: the whole body

The printed body is a sequence of parts; each lemma here runs one of them at an arbitrary device `c`, from what it needs to
what it leaves.
-/
module

public import proofs.«01_k».proof.Proof.PartsB

@[expose] public section

noncomputable section

namespace Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit tileCredit_pos)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option Role → ℕ) (c : Dev nD)

theorem bigSep_two (Φ : Fin 2 → sProp 𝕄) : bigSep Finset.univ Φ = iprop(Φ 0 ∗ Φ 1) := bigSep_univ_eq_bigSepL [0, 1] (by decide) (by decide) Φ
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
/-- A separating conjunction over the roles, role by role. -/
theorem bigSep_roles (Φ : Role → sProp 𝕄) : bigSep Finset.univ Φ = iprop(Φ (.load 0) ∗ Φ (.load 1) ∗ Φ (.load 2) ∗ Φ (.load 3) ∗ Φ (.out 0) ∗ Φ (.out 1) ∗ Φ (.send false 0) ∗ Φ (.send false 1) ∗ Φ (.send false 2) ∗ Φ (.send false 3) ∗ Φ (.send false 4) ∗ Φ (.send false 5) ∗ Φ (.recv false 0) ∗ Φ (.recv false 1) ∗ Φ (.recv false 2) ∗ Φ (.recv false 3) ∗ Φ (.recv false 4) ∗ Φ (.recv false 5) ∗ Φ (.send true 0) ∗ Φ (.send true 1) ∗ Φ (.send true 2) ∗ Φ (.send true 3) ∗ Φ (.send true 4) ∗ Φ (.send true 5) ∗ Φ (.recv true 0) ∗ Φ (.recv true 1) ∗ Φ (.recv true 2) ∗ Φ (.recv true 3) ∗ Φ (.recv true 4) ∗ Φ (.recv true 5)) :=
  bigSep_univ_eq_bigSepL roles (by decide) (by decide) Φ

/-- What a device is given for each role: to start a transfer and wait for it, and of what comes in to wait for it. -/
abbrev given (c : Dev nD) (r : Role) : sProp 𝕄 := match r with
  | .load j => ini c (.load j)
  | .out h => ini c (.out h)
  | .send d k => sIni c d k
  | .recv d k => tk c (.recv d k)

/-- A piece at known contents is a piece. -/
theorem piece_any (M : Memref sig .tc .vmem S3x1024x1024 .bf16) (k : Fin 6) (X : Vec F S1x512x1024 .bf16) : piece M c k X ⊢ pieceAny M c k := by
  unfold piece pieceAny
  iintro ⟨%f, -, H⟩
  iexists f; iexact H
/-- A slot at known contents is a slot. -/
theorem slot_any (j : Fin 4) (X : Fin 2 → Vec F S1x512x1024 .f32) : slot c j X ⊢ slotAny c j := by
  unfold slot slotAny
  iintro ⟨%f, -, H⟩
  iexists f; iexact H

/-- All pieces of a send buffer. -/
abbrev sendAll (d : Bool) : sProp 𝕄 := bigSep Finset.univ fun k : Fin 6 => pieceAny (sM d) c k
/-- All semaphores of the transfers at zero. -/
abbrev zeros : sProp 𝕄 := bigSep Finset.univ fun r : Role => semVal (cell c r) 0

/-- Two programs in sequence. -/
theorem wp_seq {α β : Type} {Q : β → sProp (MT nD τ sig Unit (Elt F) ℕ UU ℕ)} (p : Prog (TpuEff nD τ sig (Elt F) Λ₀ .tc) α) (k : α → Prog (TpuEff nD τ sig (Elt F) Λ₀ .tc) β) :
    WP c p (fun a => WP c (k a) Q) ⊢ WP c (p >>= k) Q := by
  show _ ⊢ wp frame (wpE (defs₀ (F := F)) 𝒱₀ (c : Thread nD τ) none) Set.univ (p >>= k) Q
  rw [wp_bind]

/-- The body on a device: from its buffers, the rights to its transfers and what it owes its neighbours, it ends with all
    semaphores at zero, its buffers back, nothing owed, and both column halves of its block of the result in place. -/
theorem body {Q : PUnit → sProp (MT nD τ sig Unit (Elt F) ℕ UU ℕ)} :
    ctx m K ⊢ iprop(owing c (O₀ c) -∗ dutyTok ER (barCell (src false c)) 0 false -∗ dutyTok ER (barCell (src true c)) 0 true -∗ cred (tallyAt (barCell c) () 2) -∗ atPos ER (barCell c) 0 ∅ 0 -∗ (bigSep Finset.univ (given c)) -∗ recvAll c false -∗ recvAll c true -∗ sendAll c false -∗ sendAll c true -∗ (bigSep Finset.univ (slotAny c)) -∗ (bigSep Finset.univ (outAny c)) -∗ (bigSep Finset.univ (xIn m c)) -∗ qPt m c -∗ xPt m c -∗ yPt m c -∗ wAny c
      -∗ ((owe c 12 ∗ semVal (barCell c) 0 ∗ zeros c ∗ recvAll c false ∗ recvAll c true ∗ sendAll c false ∗ sendAll c true ∗ (bigSep Finset.univ (slotAny c)) ∗ (outP c 0 (joinH (outv m c false)) ∗ outP c 1 (joinH (outv m c true))) ∗ (bigSep Finset.univ (xIn m c)) ∗ qPt m c ∗ xPt m c ∗ yPt m c ∗ wAny c) -∗ Q ⟨⟩)
      -∗ WP c (cc0_body xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q) := by
  rw [cc0_body_eq_skeleton]; unfold cc0_body_skel
  simp only [Prog.lift, Prog.bind_op, Prog.bind_ret, Prog.pure_eq_ret]
  iintro #Hc HO Hd0 Hd1 HcB HaB HG Hr0 Hr1 HS0 HS1 Ha Hp Hx Hst Hq1 Hq2 Hw Hk
  ihave H := (Entails.of_eq (bigSep_roles (given c))) $$ HG
  icases H with ⟨Hi0, Hi1, Hi2, Hi3, Ho0, Ho1, HI00, HI01, HI02, HI03, HI04, HI05, HV00, HV01, HV02, HV03, HV04, HV05, HI10, HI11, HI12, HI13, HI14, HI15, HV10, HV11, HV12, HV13, HV14, HV15⟩
  ihave H := (Entails.of_eq (bigSep_six fun k => pieceAny (sM false) c k)) $$ HS0
  icases H with ⟨HS00, HS01, HS02, HS03, HS04, HS05⟩
  ihave H := (Entails.of_eq (bigSep_six fun k => pieceAny (sM true) c k)) $$ HS1
  icases H with ⟨HS10, HS11, HS12, HS13, HS14, HS15⟩
  ihave H := (Entails.of_eq (bigSep_four (slotAny c))) $$ Ha
  icases H with ⟨Ha0, Ha1, Ha2, Ha3⟩
  ihave H := (Entails.of_eq (bigSep_two (outAny c))) $$ Hp
  icases H with ⟨Hp0, Hp1⟩
  ihave H := (Entails.of_eq (bigSep_four (xIn m c))) $$ Hx
  icases H with ⟨Hx0, Hx1, Hx2, Hx3⟩
  iapply (wp_seq c); iapply (part1 m K c) $$ Hc Hx0 Ha0 Hi0 Hx1 Ha1 Hi1 HO Hd0 Hr0
  iintro %v2 %v4 %v6 %v12 ⟨Ht0, Ht1, HO⟩
  iapply (wp_seq c); iapply (part2 m K c _) $$ Hc HO Hd1 Hr1 Hst Hw HcB HaB Ht0 Ht1 HS00
  iintro ⟨HO, Hst, Hw, HzB, HB0, HB1, Hz0, Hf0, Hx0, Hz1, Hf1, Hx1, HS00⟩
  unfold barPay
  ihave H := (Entails.of_eq (bigSep_six fun k => pieceAny (rM false) (tgt false c) k)) $$ HB0
  icases H with ⟨HB00, HB01, HB02, HB03, HB04, HB05⟩
  ihave H := (Entails.of_eq (bigSep_six fun k => pieceAny (rM true) (tgt true c) k)) $$ HB1
  icases H with ⟨HB10, HB11, HB12, HB13, HB14, HB15⟩
  iapply (wp_seq c); iapply (part3 m K c _ _) $$ Hc HS00 HB00 HO HI00 Hf1 Hw HS10
  iintro ⟨HO, HT00, Hf1, Hw, HS10⟩
  iapply (wp_seq c); iapply (part4 m K c _) $$ Hc HS10 HB10 HO HI10 Hf0 Hw HS01 HB01 HI01 Hf1
  iintro ⟨HO, HT10, Hf0, Hw, HT01, Hf1⟩
  iapply (wp_seq c); iapply (part5 m K c _ _ _) $$ Hc HS11 HB11 HO HI11 Hx2 Ha2 Hi2 Hx3 Ha3 Hi3 Hq1 Hq2
  iintro ⟨HO, HT11, Ht2, Ht3, Hq1, Hq2⟩
  iapply (wp_seq c); iapply (part6 m K c) $$ Hc HO Ht2 Hw
  iintro ⟨HO, Hz2, Hf2, Hx2, Hw⟩
  iapply (wp_seq c); iapply (part7 m K c _) $$ Hc HO HV00 HS02 HB02 HI02
  iintro ⟨HO, HZr00, HR00, HT02⟩
  iapply (wp_seq c); iapply (part8 m K c _) $$ Hc HO HV10 HS12 HB12 HI12
  iintro ⟨HO, HZr10, HR10, HT12⟩
  iapply (wp_seq c); iapply (part9 m K c _ _ _) $$ Hc HO HV01 HS03 HB03 HI03
  iintro ⟨HO, HZr01, HR01, HT03⟩
  iapply (wp_seq c); iapply (part10 m K c _) $$ Hc HO HV11 HS13 HB13 HI13 Hf1 Hw
  iintro ⟨HO, HZr11, HR11, HT13, Hf1, Hw⟩
  iapply (wp_seq c); iapply (part11 m K c _) $$ Hc Hf1 Hw Hf0 HO HV02
  iintro ⟨Hf1, Hw, Hf0, HO, HZr02, HR02⟩
  iapply (wp_seq c); iapply (part12 m K c _ _) $$ Hc HS04 HB04 HO HI04 HV12
  iintro ⟨HO, HT04, HZr12, HR12⟩
  iapply (wp_seq c); iapply (part13 m K c _ _) $$ Hc HS14 HB14 HO HI14 HV03 HS05
  iintro %X ⟨HO, HT14, HZr03, HR03, HS05⟩
  iapply (wp_seq c); iapply (part14 m K c _ _ _) $$ Hc HS05 HB05 HO HI05 HV13 HS15
  iintro ⟨HO, HT05, HZr13, HR13, HS15⟩
  iapply (wp_seq c); iapply (part15 m K c _) $$ Hc HS15 HB15 HO HI15 Ht3 Hw
  iintro ⟨HO, HT15, Hz3, Hf3, Hx3, Hw⟩
  iapply (wp_seq c); iapply (part16 m K c _) $$ Hc Hw Hf3 HO HV04 Hf0
  iintro ⟨Hw, Hf3, HO, HZr04, HR04, Hf0⟩
  iapply (wp_seq c); iapply (part17 m K c _ _) $$ Hc HO HV14 Hf1 HV05
  iintro ⟨HO, HZr14, HR14, Hf1, HZr05, HR05⟩
  iapply (wp_seq c); iapply (part18 m K c _) $$ Hc HR05 Hf0 HO HV15 Hf1
  iintro ⟨HR05, Hf0, HO, HZr15, HR15, Hf1⟩
  iapply (wp_seq c); iapply (part19 m K c) $$ Hc Hf0 Hp0 Ho0 Hf1 Hp1 Ho1 HO
  iintro ⟨Hf0, Hp0, Hf1, Hp1, HO, Hzo0, Hzo1⟩
  iapply (wp_seq c); iapply (part20 m K c) $$ Hc HO HT00 HT10 HT01 HT11
  iintro ⟨HO, HZs00, HS00, HZs10, HS10, HZs01, HS01, HZs11, HS11⟩
  iapply (wp_seq c); iapply (part21 m K c) $$ Hc HO HT02 HT12 HT03
  iintro ⟨HO, HZs02, HS02, HZs12, HS12, HZs03, HS03⟩
  iapply (wp_seq c); iapply (part22 m K c) $$ Hc HO HT13 HT04 HT14
  iintro ⟨HO, HZs13, HS13, HZs04, HS04, HZs14, HS14⟩
  iapply (wp_waitS m K c false 5 (hops.drop 12) rfl rfl) $$ Hc HO HT05
  iintro ⟨HO, HZs05, HS05⟩
  iapply (wp_waitS m K c true 5 (hops.drop 12) rfl rfl) $$ Hc HO HT15
  iintro ⟨HO, HZs15, HS15⟩
  iapply (wp_done c)
  iapply Hk
  isplitl [HO]; · iexact HO
  isplitl [HzB]; · iexact HzB
  isplitl [Hz0 Hz1 Hz2 Hz3 Hzo0 Hzo1 HZs00 HZs01 HZs02 HZs03 HZs04 HZs05 HZr00 HZr01 HZr02 HZr03 HZr04 HZr05 HZs10 HZs11 HZs12 HZs13 HZs14 HZs15 HZr10 HZr11 HZr12 HZr13 HZr14 HZr15]
  · iapply (Entails.of_eq (bigSep_roles fun r => semVal (cell c r) 0).symm)
    isplitl [Hz0]; · iexact Hz0
    isplitl [Hz1]; · iexact Hz1
    isplitl [Hz2]; · iexact Hz2
    isplitl [Hz3]; · iexact Hz3
    isplitl [Hzo0]; · iexact Hzo0
    isplitl [Hzo1]; · iexact Hzo1
    isplitl [HZs00]; · iexact HZs00
    isplitl [HZs01]; · iexact HZs01
    isplitl [HZs02]; · iexact HZs02
    isplitl [HZs03]; · iexact HZs03
    isplitl [HZs04]; · iexact HZs04
    isplitl [HZs05]; · iexact HZs05
    isplitl [HZr00]; · iexact HZr00
    isplitl [HZr01]; · iexact HZr01
    isplitl [HZr02]; · iexact HZr02
    isplitl [HZr03]; · iexact HZr03
    isplitl [HZr04]; · iexact HZr04
    isplitl [HZr05]; · iexact HZr05
    isplitl [HZs10]; · iexact HZs10
    isplitl [HZs11]; · iexact HZs11
    isplitl [HZs12]; · iexact HZs12
    isplitl [HZs13]; · iexact HZs13
    isplitl [HZs14]; · iexact HZs14
    isplitl [HZs15]; · iexact HZs15
    isplitl [HZr10]; · iexact HZr10
    isplitl [HZr11]; · iexact HZr11
    isplitl [HZr12]; · iexact HZr12
    isplitl [HZr13]; · iexact HZr13
    isplitl [HZr14]; · iexact HZr14
    iexact HZr15
  isplitl [HR00 HR01 HR02 HR03 HR04 HR05]
  · iapply (Entails.of_eq (bigSep_six fun k => pieceAny (rM false) c k).symm)
    isplitl [HR00]; · iapply (piece_any c (rM false) _ _) $$ HR00
    isplitl [HR01]; · iapply (piece_any c (rM false) _ _) $$ HR01
    isplitl [HR02]; · iapply (piece_any c (rM false) _ _) $$ HR02
    isplitl [HR03]; · iapply (piece_any c (rM false) _ _) $$ HR03
    isplitl [HR04]; · iapply (piece_any c (rM false) _ _) $$ HR04
    iapply (piece_any c (rM false) _ _) $$ HR05
  isplitl [HR10 HR11 HR12 HR13 HR14 HR15]
  · iapply (Entails.of_eq (bigSep_six fun k => pieceAny (rM true) c k).symm)
    isplitl [HR10]; · iapply (piece_any c (rM true) _ _) $$ HR10
    isplitl [HR11]; · iapply (piece_any c (rM true) _ _) $$ HR11
    isplitl [HR12]; · iapply (piece_any c (rM true) _ _) $$ HR12
    isplitl [HR13]; · iapply (piece_any c (rM true) _ _) $$ HR13
    isplitl [HR14]; · iapply (piece_any c (rM true) _ _) $$ HR14
    iapply (piece_any c (rM true) _ _) $$ HR15
  isplitl [HS00 HS01 HS02 HS03 HS04 HS05]
  · iapply (Entails.of_eq (bigSep_six fun k => pieceAny (sM false) c k).symm)
    isplitl [HS00]; · iapply (piece_any c (sM false) _ _) $$ HS00
    isplitl [HS01]; · iapply (piece_any c (sM false) _ _) $$ HS01
    isplitl [HS02]; · iapply (piece_any c (sM false) _ _) $$ HS02
    isplitl [HS03]; · iapply (piece_any c (sM false) _ _) $$ HS03
    isplitl [HS04]; · iapply (piece_any c (sM false) _ _) $$ HS04
    iapply (piece_any c (sM false) _ _) $$ HS05
  isplitl [HS10 HS11 HS12 HS13 HS14 HS15]
  · iapply (Entails.of_eq (bigSep_six fun k => pieceAny (sM true) c k).symm)
    isplitl [HS10]; · iapply (piece_any c (sM true) _ _) $$ HS10
    isplitl [HS11]; · iapply (piece_any c (sM true) _ _) $$ HS11
    isplitl [HS12]; · iapply (piece_any c (sM true) _ _) $$ HS12
    isplitl [HS13]; · iapply (piece_any c (sM true) _ _) $$ HS13
    isplitl [HS14]; · iapply (piece_any c (sM true) _ _) $$ HS14
    iapply (piece_any c (sM true) _ _) $$ HS15
  isplitl [Hf0 Hf1 Hf2 Hf3]
  · iapply (Entails.of_eq (bigSep_four (slotAny c)).symm)
    isplitl [Hf0]; · iapply (slot_any c _ _) $$ Hf0
    isplitl [Hf1]; · iapply (slot_any c _ _) $$ Hf1
    isplitl [Hf2]; · iapply (slot_any c _ _) $$ Hf2
    iapply (slot_any c _ _) $$ Hf3
  isplitl [Hp0 Hp1]
  · isplitl [Hp0]; · iexact Hp0
    iexact Hp1
  isplitl [Hx0 Hx1 Hx2 Hx3]
  · iapply (Entails.of_eq (bigSep_four (xIn m c)).symm)
    isplitl [Hx0]; · iexact Hx0
    isplitl [Hx1]; · iexact Hx1
    isplitl [Hx2]; · iexact Hx2
    iexact Hx3
  isplitl [Hst]; · iexact Hst
  isplitl [Hq1]; · iexact Hq1
  isplitl [Hq2]; · iexact Hq2
  iexists (wv m c); iexact Hw

end Ring
-- ==== Proof.Ghost.lean ====
/-
# The parts of the kernel's body: the ghost state at launch

The printed body is a sequence of parts; each lemma here runs one of them at an arbitrary device `c`, from what it needs to
what it leaves.
-/
module

public import proofs.«01_k».proof.Proof.Body

@[expose] public section

noncomputable section

namespace Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit tileCredit_pos)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option Role → ℕ) (c : Dev nD)

/-! ## Conjunctions over devices and roles -/

theorem bigSep_opt (Φ : Option Role → sProp 𝕄) : bigSep Finset.univ Φ = iprop(Φ none ∗ bigSep Finset.univ fun r => Φ (some r)) := by
  rw [bigSep_univ_at Φ none, show (Finset.univ : Finset (Option Role)).erase none = Finset.univ.map Function.Embedding.some from by
    ext o; cases o <;> simp, bigSep_map]
  rfl

/-- The roles by kind. -/
def kind : (Fin 4 ⊕ Fin 2) ⊕ ((Bool × Fin 6) ⊕ (Bool × Fin 6)) ≃ Role where
  toFun
    | .inl (.inl j) => .load j
    | .inl (.inr h) => .out h
    | .inr (.inl p) => .send p.1 p.2
    | .inr (.inr p) => .recv p.1 p.2
  invFun
    | .load j => .inl (.inl j)
    | .out h => .inl (.inr h)
    | .send d k => .inr (.inl (d, k))
    | .recv d k => .inr (.inr (d, k))
  left_inv x := by rcases x with (x | x) | (x | x) <;> rfl
  right_inv x := by cases x <;> rfl

theorem bigSep_kind (Φ : Role → sProp 𝕄) : bigSep Finset.univ Φ
    = iprop(((bigSep Finset.univ fun j => Φ (.load j)) ∗ bigSep Finset.univ fun h => Φ (.out h))
      ∗ (bigSep Finset.univ fun p : Bool × Fin 6 => Φ (.send p.1 p.2)) ∗ bigSep Finset.univ fun p : Bool × Fin 6 => Φ (.recv p.1 p.2)) := by
  rw [bigSep_univ_equiv kind Φ, bigSep_univ_sum, bigSep_univ_sum, bigSep_univ_sum]
  rfl

theorem bigSep_swap (Φ : Dev nD → Role → sProp 𝕄) :
    (bigSep Finset.univ fun c => bigSep Finset.univ fun r => Φ c r) = bigSep Finset.univ fun r => bigSep Finset.univ fun c => Φ c r :=
  bigSep_univ_comm _

theorem bigSep_with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The cells and the tokens minted -/

/-- The kernel's own semaphores. -/
abbrev osem (r : Role) : SemLoc sig := .dma (sem r)

theorem ownSemFacts : Pipeline.OwnSemFacts cfg0.spec osem where
  isScoped r := by
    have h : ∀ q : DmaSem sig, (SemLoc.dma q : SemLoc sig).isScoped .tc = true := by decide
    exact h _
  inj a b h := sem_injective (SemLoc.dma.inj h)
  disj r w s h := by
    have hr := role_sem r
    rw [SemLoc.dma.inj h, role_stage _ (by fin_cases w <;> fin_cases s <;> decide)] at hr
    cases hr

theorem cell_ne_bar (a b : Dev nD) (r : Role) : cell a r ≠ barCell b := fun h => by cases congrArg Prod.snd h
theorem dev_of_cell {a b : Dev nD} {x y : SemLoc sig} (h : (((a : Thread nD τ), x) : GSem nD τ sig) = ((b : Thread nD τ), y)) : a = b :=
  congrArg (fun g : GSem nD τ sig => g.1.1) h
theorem role_of_cell {a b : Dev nD} {r r' : Role} (h : cell a r = cell b r') : r = r' := sem_injective (SemLoc.dma.inj (congrArg Prod.snd h))

theorem kcell_injective : Function.Injective (kcell : Dev nD × Option Role → GSem nD τ sig) := by
  rintro ⟨c, o⟩ ⟨c', o'⟩ h
  rcases o with _ | r <;> rcases o' with _ | r'
  · cases dev_of_cell h; rfl
  · exact absurd h.symm (cell_ne_bar _ _ _)
  · exact absurd h (cell_ne_bar _ _ _)
  · cases dev_of_cell h; cases role_of_cell h; rfl

/-- All the semaphores of the protocol. -/
def ringCells : Finset (GSem nD τ sig) := Finset.univ.map ⟨kcell, kcell_injective⟩

/-- The duties of a device's own semaphores: two of its barrier's, one of each other. -/
abbrev tokOf (x : Dev nD × Option (Option Role)) : GSem nD τ sig × ℕ × Bool := match x.2 with
  | none => (barCell x.1, 0, true)
  | some o => (kcell (x.1, o), 0, false)
theorem tokOf_injective : Function.Injective tokOf := by
  rintro ⟨c, o⟩ ⟨c', o'⟩ h
  rcases o with _ | o <;> rcases o' with _ | o'
  · cases dev_of_cell (congrArg Prod.fst h); rfl
  · cases congrArg (fun x : GSem nD τ sig × ℕ × Bool => x.2.2) h
  · cases congrArg (fun x : GSem nD τ sig × ℕ × Bool => x.2.2) h
  · cases kcell_injective (congrArg Prod.fst h); rfl
def ringToks : Finset (GSem nD τ sig × ℕ × Bool) := Finset.univ.map ⟨tokOf, tokOf_injective⟩

/-- The ghost element the launch starts from. -/
def u₀ : UU := (initOf (Pipeline.cells cfgs cellOf_inj) (Pipeline.launchToks cfgs cellOf_inj), initOf ringCells ringToks)

/-- The tokens of device `c`'s own duties. -/
def toks (c : Dev nD) : sProp 𝕄 :=
  iprop((dutyTok ER (barCell c) 0 true ∗ dutyTok ER (barCell c) 0 false) ∗ bigSep Finset.univ fun r => dutyTok ER (cell c r) 0 false)

/-- What the launch element deals device `c`. -/
def G (c : Dev nD) : sProp 𝕄 :=
  iprop((bigSep Finset.univ fun o => roundState ER (Rd m) (kcell (c, o)) 0)
    ∗ (bigSep Finset.univ fun o => iprop(atPos ER (kcell (c, o)) 0 ∅ 0 ∗ reached ER (kcell (c, o)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun o => Φ (kcell (c, o)) := by
    unfold ringCells; rw [bigSep_map, bigSep_univ_prod]; rfl
  have hO (Φ : Option (Option Role) → sProp 𝕄) : bigSep Finset.univ Φ = iprop((Φ none ∗ Φ (some none)) ∗ bigSep Finset.univ fun r => Φ (some (some r))) := by
    rw [bigSep_univ_at Φ none, show (Finset.univ : Finset (Option (Option Role))).erase none = Finset.univ.map Function.Embedding.some from by
      ext o; cases o <;> simp, bigSep_map, bigSep_opt]
    exact (equiv_iff.mp ⟨BI.sep_assoc, BI.sep_assoc'⟩).symm
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by rw [hO]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The semaphores become cells -/

/-- The kernel's own semaphores of a device, at zero. -/
abbrev own0 (c : Dev nD) : sProp 𝕄 := Pipeline.ownSems0 (Ix := Unit) (Name := ℕ) (U := UU) (Lvl := ℕ) (Val := Elt F) (τ := τ) osem c

theorem own0_eq : own0 c = (zeros c : sProp 𝕄) := rfl
theorem unscopedSems0_eq : (unscopedSems0 c : sProp 𝕄) = semVal (barCell c) 0 := by
  unfold unscopedSems0; rw [bigSep_eq_bigSepL_of_eq [SemLoc.reg barS] (by decide) (by decide)]; rfl

theorem sems_eq : iprop(own0 c ∗ unscopedSems0 c) ⊢ (bigSep Finset.univ fun o => semVal (kcell (c, o)) 0 : sProp 𝕄) := by
  rw [own0_eq, unscopedSems0_eq, bigSep_opt]
  iintro ⟨HO, HB⟩
  isplitl [HB]; · iexact HB
  iexact HO

/-- On one device: its semaphores are put under the schedule. -/
theorem core_alloc : iprop(own0 c ∗ unscopedSems0 c ∗ G m c)
      ⊢ |={Set.univ}=> iprop((bigSep Finset.univ fun o => iprop(∃ κ : ℕ, cellInv ER (Rd m) κ (kcell (c, o))))
          ∗ (bigSep Finset.univ fun o => iprop(atPos ER (kcell (c, o)) 0 ∅ 0 ∗ reached ER (kcell (c, o)) 0)) ∗ toks c) := by
  have hinv : iprop((bigSep Finset.univ fun o => semVal (kcell (c, o)) 0) ∗ bigSep Finset.univ fun o => roundState ER (Rd m) (kcell (c, o)) 0)
      ⊢ (|={Set.univ}=> bigSep Finset.univ fun o => iprop(∃ κ : ℕ, cellInv ER (Rd m) κ (kcell (c, o))) : sProp 𝕄) := by
    rw [← bigSep_sep']
    exact (bigSep_mono fun o _ => (Rounds.body_intro ER (Rd m) (kcell (c, o))).trans inv_alloc).trans (bigSep_fupd _ _)
  unfold G
  iintro ⟨Hos, Hus, Hst, Hat, Htok⟩
  ihave Hv := (sems_eq (F := F) c) $$ [Hos Hus]
  · isplitl [Hos] <;> iassumption
  imod hinv $$ [Hv Hst] with Hinv
  · isplitl [Hv] <;> iassumption
  imodintro
  isplitl [Hinv]; · iexact Hinv
  isplitl [Hat]; · iexact Hat
  iexact Htok

/-! ## The tokens dealt around the ring -/

/-- The device whose semaphore a duty of device `c` credits. -/
def dst (r : Role) : Dev nD ≃ Dev nD := match r with
  | .recv d _ => ring d
  | _ => Equiv.refl _

/-- The tokens of the duties device `c` pays. -/
def payToks (c : Dev nD) : sProp 𝕄 :=
  iprop((dutyTok ER (barCell (src true c)) 0 true ∗ dutyTok ER (barCell (src false c)) 0 false) ∗ bigSep Finset.univ fun r => dutyTok ER (cell (dst r c) r) 0 false)

theorem toks_around : (bigSep Finset.univ fun c : Dev nD => (toks c : sProp 𝕄)) ⊢ bigSep Finset.univ fun c : Dev nD => payToks c := by
  have h : (bigSep Finset.univ fun c : Dev nD => bigSep Finset.univ fun r => (dutyTok ER (cell c r) 0 false : sProp 𝕄))
      = bigSep Finset.univ fun c : Dev nD => bigSep Finset.univ fun r => (dutyTok ER (cell (dst r c) r) 0 false : sProp 𝕄) := by
    rw [bigSep_swap, bigSep_swap]
    exact bigSep_congr fun r _ => bigSep_univ_equiv (dst r) _
  unfold toks payToks
  rw [bigSep_sep', bigSep_sep', bigSep_sep', bigSep_sep', h,
    bigSep_univ_equiv (ring true).symm (fun c : Dev nD => (dutyTok ER (barCell c) 0 true : sProp 𝕄)),
    bigSep_univ_equiv (ring false).symm (fun c : Dev nD => (dutyTok ER (barCell c) 0 false : sProp 𝕄))]
  exact Entails.refl _

/-- What stays with device `c`: its positions and the tokens of the duties it pays. -/
def linear (c : Dev nD) : sProp 𝕄 := iprop((bigSep Finset.univ fun o => atPos ER (kcell (c, o)) 0 ∅ 0) ∗ payToks c)

/-- What the global step makes of the launch's deal. -/
def G' (c : Dev nD) : sProp 𝕄 := iprop(∃ K, records m K ∗ linear c)

theorem regroup :
    (bigSep Finset.univ fun c : Dev nD => iprop((bigSep Finset.univ fun o => iprop(∃ κ : ℕ, cellInv ER (Rd m) κ (kcell (c, o))))
          ∗ (bigSep Finset.univ fun o => iprop(atPos ER (kcell (c, o)) 0 ∅ 0 ∗ reached ER (kcell (c, o)) 0)) ∗ toks c) : sProp 𝕄)
      ⊢ bigSep Finset.univ (G' m) := by
  rw [bigSep_sep', bigSep_sep', ← bigSep_univ_prod (fun ck : Dev nD × Option Role => iprop(∃ κ : ℕ, cellInv ER (Rd m) κ (kcell ck))),
    bigSep_congr (s := Finset.univ) (fun (c : Dev nD) _ => bigSep_sep' Finset.univ (fun o => (atPos ER (kcell (c, o)) 0 ∅ 0 : sProp 𝕄)) (fun o => reached ER (kcell (c, o)) 0)),
    bigSep_sep', ← bigSep_univ_prod (fun ck : Dev nD × Option Role => (reached ER (kcell ck) 0 : sProp 𝕄))]
  iintro ⟨HI, ⟨Hat, #HR⟩, Htok⟩
  ihave HK := (BI.bigSep_exists_pi Finset.univ (fun (ck : Dev nD × Option Role) (κ : ℕ) => (cellInv ER (Rd m) κ (kcell ck) : sProp 𝕄))) $$ HI
  icases HK with ⟨%K, #HI⟩
  ihave Htk := (toks_around (F := F)) $$ Htok
  have hg (c : Dev nD) : iprop(records m K ∗ linear c) ⊢ G' m c := by
    unfold G'
    iintro H
    iexists K; iexact H
  iapply (bigSep_with_records (R := records m K) fun c _ => hg c)
  isplitr
  · unfold records; isplitl; · iexact HI
    iexact HR
  · have hl : iprop((bigSep Finset.univ fun c : Dev nD => bigSep Finset.univ fun o => (atPos ER (kcell (c, o)) 0 ∅ 0 : sProp 𝕄)) ∗ bigSep Finset.univ payToks)
        ⊢ bigSep Finset.univ fun c => (linear c : sProp 𝕄) := Entails.of_eq (bigSep_sep' _ _ _).symm
    iapply hl
    isplitl [Hat]; · iexact Hat
    iexact Htk

/-- The global step: the semaphores of every device at once. -/
theorem glob : (bigSep Finset.univ fun c => iprop(own0 c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The launch credit -/

theorem src_eq_iff {d : Bool} {a c : Dev nD} : src d a = c ↔ a = tgt d c :=
  ⟨fun h => by rw [← h, tgt_src], fun h => by rw [h, src_tgt]⟩
theorem tgt_eq_iff {d : Bool} {a c : Dev nD} : tgt d a = c ↔ a = src d c :=
  ⟨fun h => by rw [← h, src_tgt], fun h => by rw [h, tgt_src]⟩

theorem owedL_bar (l : List (Bool × Fin 6)) (a : Dev nD) : owedL a l (barCell c) () = 0 := by
  induction l with
  | nil => rfl
  | cons p l ih =>
    unfold owedL
    rw [Pi.add_apply, Finsupp.add_apply, ih, tallyAt_apply, if_neg fun h => cell_ne_bar _ _ _ h.1.symm]

theorem owedL_recv (l : List (Bool × Fin 6)) (a : Dev nD) (p : Bool × Fin 6) :
    owedL a l (cell c (.recv p.1 p.2)) () = if a = src p.1 c then NP * l.count p else 0 := by
  induction l with
  | nil => unfold owedL; split <;> rfl
  | cons q l ih =>
    unfold owedL
    rw [Pi.add_apply, Finsupp.add_apply, ih, tallyAt_apply, List.count_cons]
    by_cases hq : q = p
    · subst hq
      by_cases ha : a = src q.1 c
      · rw [if_pos ha, if_pos ha, if_pos ⟨by rw [ha, tgt_src], rfl⟩]
        simp only [beq_self_eq_true, if_true]
        exact (Nat.mul_succ _ _).symm
      · rw [if_neg ha, if_neg ha, if_neg fun h => ha (tgt_eq_iff.mp (dev_of_cell (And.left h)).symm)]
    · have hne : ¬(cell c (.recv p.1 p.2) = cell (tgt q.1 a) (.recv q.1 q.2) ∧ () = ()) := fun h =>
        have e := Role.recv.inj (role_of_cell h.1)
        hq (Prod.ext e.1.symm e.2.symm)
      have hb : ¬(q == p) = true := by simpa using hq
      rw [if_neg hne, if_neg hb, Nat.add_zero, Nat.add_zero]

theorem owed_bar (a : Dev nD) : O₀ a (barCell c) () = (if a = tgt true c then 1 else 0) + (if a = tgt false c then 1 else 0) := by
  unfold O₀ O₁
  rw [Pi.add_apply, Finsupp.add_apply, Pi.add_apply, Finsupp.add_apply, owedL_bar, tallyAt_apply, tallyAt_apply, Nat.zero_add]
  have h (d : Bool) : (barCell c = barCell (src d a) ∧ () = ()) ↔ a = tgt d c :=
    ⟨fun h => src_eq_iff.mp (dev_of_cell h.1).symm, fun h => ⟨by rw [h, src_tgt], rfl⟩⟩
  rw [if_congr (h true) rfl rfl, if_congr (h false) rfl rfl]

theorem owed_recv (a : Dev nD) (p : Bool × Fin 6) : O₀ a (cell c (.recv p.1 p.2)) () = if a = src p.1 c then NP else 0 := by
  unfold O₀ O₁
  rw [Pi.add_apply, Finsupp.add_apply, Pi.add_apply, Finsupp.add_apply, owedL_recv, tallyAt_ne_cell (cell_ne_bar _ _ _), tallyAt_ne_cell (cell_ne_bar _ _ _), Finsupp.zero_apply,
    show hops.count p = 1 from by revert p; decide, Nat.mul_one, Nat.add_zero, Nat.add_zero]

theorem launch_bar : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib,
    Finset.sum_ite_eq' Finset.univ (tgt true c) fun _ => 1, Finset.sum_ite_eq' Finset.univ (tgt false c) fun _ => 1, if_pos (Finset.mem_univ _), if_pos (Finset.mem_univ _)]

theorem launch_recv (p : Bool × Fin 6) :
    tallyOn (cell c (.recv p.1 p.2)) (launchCredit (Pipeline.owing O₀) 0 (cell c (.recv p.1 p.2))) = (tallyAt (cell c (.recv p.1 p.2)) () NP : CellTallies nD τ sig Unit) := by
  unfold tallyAt; refine congrArg _ (Finsupp.ext fun u => ?_); cases u
  rw [Pipeline.launchCredit_owing, Finsupp.single_eq_same, Finset.sum_congr rfl fun d _ => owed_recv c d p, Finset.sum_ite_eq' Finset.univ (src p.1 c) fun _ => NP,
    if_pos (Finset.mem_univ _)]

/-- The credit a device holds at launch: two units on its barrier, each piece's on its receive semaphore. -/
theorem creds : (Pipeline.launchCred O₀ c : sProp 𝕄)
    ⊢ iprop(cred (tallyAt (barCell c) () 2) ∗ bigSep Finset.univ fun p : Bool × Fin 6 => cred (tallyAt (cell c (.recv p.1 p.2)) () NP)) := by
  have hi : Function.Injective fun p : Bool × Fin 6 => (osem (.recv p.1 p.2) : SemLoc sig) := fun p q h => by
    have e := Role.recv.inj (sem_injective (SemLoc.dma.inj h))
    exact Prod.ext e.1 e.2
  unfold Pipeline.launchCred
  rw [bigSep_univ_at _ (SemLoc.reg barS), launch_bar]
  refine BIClass.sep_mono (Entails.refl _) ?_
  refine (bigSep_subset (t := Finset.univ.map ⟨_, hi⟩) fun x hx => ?_).trans ?_
  · obtain ⟨p, _, rfl⟩ := Finset.mem_map.mp hx
    exact Finset.mem_erase.mpr ⟨fun h => (by cases h), Finset.mem_univ _⟩
  · rw [bigSep_map]
    exact bigSep_mono fun p _ => Entails.of_eq (congrArg cred (launch_recv c p))

/-! ## What a device is given -/

/-- The positions, the tokens and the credit make up what the run starts with. -/
theorem given_intro :
    iprop(linear c ∗ Pipeline.launchCred O₀ c) ⊢ (iprop((dutyTok ER (barCell (src false c)) 0 false ∗ dutyTok ER (barCell (src true c)) 0 true
      ∗ cred (tallyAt (barCell c) () 2) ∗ atPos ER (barCell c) 0 ∅ 0) ∗ bigSep Finset.univ (given c)) : sProp 𝕄) := by
  have hs (d : Bool) (k : Fin 6) : iprop((dutyTok ER (cell c (.send d k)) 0 false ∗ atPos ER (cell c (.send d k)) 0 ∅ 0) ∗ dutyTok ER (cell (tgt d c) (.recv d k)) 0 false)
      = (sIni c d k : sProp 𝕄) := by unfold sIni ini; rfl
  unfold linear payToks
  rw [bigSep_opt, bigSep_kind (fun r => atPos ER (kcell (c, some r)) 0 ∅ 0), bigSep_kind (fun r => dutyTok ER (cell (dst r c) r) 0 false), bigSep_kind (given c)]
  iintro ⟨⟨⟨Hb, ⟨⟨Hal, Hao⟩, Has, Har⟩⟩, ⟨HtT, HtF⟩, ⟨⟨Htl, Hto⟩, Hts, Htr⟩⟩, Hc⟩
  ihave Hc := (creds c) $$ Hc
  icases Hc with ⟨Hcb, Hcr⟩
  isplitl [Hb HtT HtF Hcb]
  · isplitl [HtF]; · iexact HtF
    isplitl [HtT]; · iexact HtT
    isplitl [Hcb]; · iexact Hcb
    iexact Hb
  isplitl [Hal Hao Htl Hto]
  · isplitl [Hal Htl]
    · have h : iprop((bigSep Finset.univ fun j : Fin 4 => dutyTok ER (cell (dst (.load j) c) (.load j)) 0 false) ∗ bigSep Finset.univ fun j : Fin 4 => atPos ER (kcell (c, some (.load j))) 0 ∅ 0)
          ⊢ (bigSep Finset.univ fun j : Fin 4 => given c (.load j) : sProp 𝕄) := Entails.of_eq (bigSep_sep' _ _ _).symm
      iapply h
      isplitl [Htl]; · iexact Htl
      iexact Hal
    · have h : iprop((bigSep Finset.univ fun j : Fin 2 => dutyTok ER (cell (dst (.out j) c) (.out j)) 0 false) ∗ bigSep Finset.univ fun j : Fin 2 => atPos ER (kcell (c, some (.out j))) 0 ∅ 0)
          ⊢ (bigSep Finset.univ fun j : Fin 2 => given c (.out j) : sProp 𝕄) := Entails.of_eq (bigSep_sep' _ _ _).symm
      iapply h
      isplitl [Hto]; · iexact Hto
      iexact Hao
  isplitl [Has Hts Htr]
  · have h : iprop(((bigSep Finset.univ fun p : Bool × Fin 6 => dutyTok ER (cell (dst (.send p.1 p.2) c) (.send p.1 p.2)) 0 false)
            ∗ bigSep Finset.univ fun p : Bool × Fin 6 => atPos ER (kcell (c, some (.send p.1 p.2))) 0 ∅ 0)
          ∗ bigSep Finset.univ fun p : Bool × Fin 6 => dutyTok ER (cell (dst (.recv p.1 p.2) c) (.recv p.1 p.2)) 0 false)
        ⊢ (bigSep Finset.univ fun p : Bool × Fin 6 => given c (.send p.1 p.2) : sProp 𝕄) := by
      rw [← bigSep_sep', ← bigSep_sep']
      exact bigSep_mono fun p _ => Entails.of_eq (hs p.1 p.2)
    iapply h
    isplitl [Has Hts]
    · isplitl [Hts]; · iexact Hts
      iexact Has
    iexact Htr
  · have h : iprop((bigSep Finset.univ fun p : Bool × Fin 6 => cred (tallyAt (cell c (.recv p.1 p.2)) () NP)) ∗ bigSep Finset.univ fun p : Bool × Fin 6 => atPos ER (kcell (c, some (.recv p.1 p.2))) 0 ∅ 0)
        ⊢ (bigSep Finset.univ fun p : Bool × Fin 6 => given c (.recv p.1 p.2) : sProp 𝕄) := Entails.of_eq (bigSep_sep' _ _ _).symm
    iapply h
    isplitl [Hcr]; · iexact Hcr
    iexact Har

end Ring
-- ==== Proof.Deal.lean ====
/-
# The parts of the kernel's body: the buffers dealt out and taken back

The printed body is a sequence of parts; each lemma here runs one of them at an arbitrary device `c`, from what it needs to
what it leaves.
-/
module

public import proofs.«01_k».proof.Proof.Body

@[expose] public section

noncomputable section

namespace Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit tileCredit_pos)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option Role → ℕ) (c : Dev nD)

/-! ## A whole buffer and its parts -/

section Parts
variable (b : Ref sig .tc) {n : ℕ} (r : Fin n → Rect b.ty.shape) (hd : Set.PairwiseDisjoint (↑(Finset.univ : Finset (Fin n))) fun k => (r k).set)
  (hc : (Finset.univ : Finset (Fin n)).biUnion (fun k => (r k).set) = Finset.univ)

/-- A part of a buffer, at some contents. -/
abbrev partAny (k : Fin n) : sProp 𝕄 :=
  iprop(∃ f : Buf (Elt F) ((c : Thread nD τ).loc b), ((Memref.whole b).access (r k)).loc (c : Thread nD τ) ↦[((Memref.whole b).access (r k)).set]{fullShare} f)

theorem partAny_eq (k : Fin n) : (partAny c b r k : sProp 𝕄) = iprop(∃ f : Buf (Elt F) ((c : Thread nD τ).loc b), ((c : Thread nD τ).loc b) ↦[(r k).set]{fullShare} f) := by
  have e : ((Memref.whole b).access (r k)).set = (r k).set := View.set_slice_whole b (r k)
  unfold partAny
  rw [e]

include hd hc
/-- A buffer at some contents is dealt into the parts of a partition. -/
theorem whole_deal : iprop(∃ f : Buf (Elt F) ((c : Thread nD τ).loc b), ((c : Thread nD τ).loc b) ↦{fullShare} f) ⊢ bigSep Finset.univ fun k => (partAny c b r k : sProp 𝕄) := by
  iintro ⟨%f, H⟩
  ihave H := (Entails.of_eq (deal (ℓ := (c : Thread nD τ).loc b) (fun k => (r k).set) hd hc f)) $$ H
  have e (k : Fin n) : (((c : Thread nD τ).loc b) ↦[(r k).set]{fullShare} f : sProp 𝕄) ⊢ partAny c b r k := by
    rw [partAny_eq]
    iintro H
    iexists f; iexact H
  have h : (bigSep Finset.univ fun k => ((c : Thread nD τ).loc b) ↦[(r k).set]{fullShare} f : sProp 𝕄) ⊢ bigSep Finset.univ fun k => partAny c b r k :=
    bigSep_mono fun k _ => e k
  iapply h
  iexact H

/-- And taken back from them. -/
theorem whole_undeal (f₀ : Buf (Elt F) ((c : Thread nD τ).loc b)) :
    (bigSep Finset.univ fun k => (partAny c b r k : sProp 𝕄)) ⊢ iprop(∃ f : Buf (Elt F) ((c : Thread nD τ).loc b), ((c : Thread nD τ).loc b) ↦{fullShare} f) := by
  rw [bigSep_congr (s := Finset.univ) fun k _ => partAny_eq (F := F) c b r k]
  exact undeal (ℓ := (c : Thread nD τ).loc b) (fun k => (r k).set) hd hc f₀
end Parts

/-! ## The scratch buffers -/

/-- A scratch buffer at some contents. -/
abbrev scr (b : Ref sig .tc) : sProp 𝕄 := iprop(∃ f : Buf (Elt F) ((c : Thread nD τ).loc b), ((c : Thread nD τ).loc b) ↦{fullShare} f)

theorem send_deal : iprop(scr c cc0_scratch2 ∗ scr c cc0_scratch4) ⊢ (iprop(sendAll c false ∗ sendAll c true) : sProp 𝕄) :=
  BIClass.sep_mono (whole_deal c cc0_scratch2 pieceRect piece_disjoint piece_cover) (whole_deal c cc0_scratch4 pieceRect piece_disjoint piece_cover)
include m in
theorem send_undeal : (iprop(sendAll c false ∗ sendAll c true) : sProp 𝕄) ⊢ iprop(scr c cc0_scratch2 ∗ scr c cc0_scratch4) :=
  BIClass.sep_mono (whole_undeal c cc0_scratch2 pieceRect piece_disjoint piece_cover (m _)) (whole_undeal c cc0_scratch4 pieceRect piece_disjoint piece_cover (m _))
theorem recv_deal : iprop(scr c cc0_scratch3 ∗ scr c cc0_scratch5) ⊢ (iprop(recvAll c false ∗ recvAll c true) : sProp 𝕄) :=
  BIClass.sep_mono (whole_deal c cc0_scratch3 pieceRect piece_disjoint piece_cover) (whole_deal c cc0_scratch5 pieceRect piece_disjoint piece_cover)
include m in
theorem recv_undeal : (iprop(recvAll c false ∗ recvAll c true) : sProp 𝕄) ⊢ iprop(scr c cc0_scratch3 ∗ scr c cc0_scratch5) :=
  BIClass.sep_mono (whole_undeal c cc0_scratch3 pieceRect piece_disjoint piece_cover (m _)) (whole_undeal c cc0_scratch5 pieceRect piece_disjoint piece_cover (m _))
theorem slots_deal : scr c cc0_scratch0 ⊢ (bigSep Finset.univ (slotAny c) : sProp 𝕄) := whole_deal c cc0_scratch0 slotRect slot_disjoint slot_cover
include m in
theorem slots_undeal : (bigSep Finset.univ (slotAny c) : sProp 𝕄) ⊢ scr c cc0_scratch0 := whole_undeal c cc0_scratch0 slotRect slot_disjoint slot_cover (m _)

/-! ## The result -/

theorem out_deal (V : Buf (Elt F) ((c : Thread nD τ).loc main_v1)) :
    (((c : Thread nD τ).loc main_v1) ↦{fullShare} V : sProp 𝕄) ⊢ bigSep Finset.univ (outAny c) := by
  iintro H
  iapply (whole_deal c main_v1 colRect col_disjoint col_cover)
  iexists V; iexact H

/-- Two column halves at known contents are the result at contents that read so. -/
theorem out_undeal (Z : Fin 2 → Vec F S1024x1024 .f32) :
    iprop(outP c 0 (Z 0) ∗ outP c 1 (Z 1)) ⊢ (iprop(∃ f : Buf (Elt F) ((c : Thread nD τ).loc main_v1),
      ⌜∀ h, (oM.access (colRect h)).read (Elt F) f = Z h⌝ ∗ (((c : Thread nD τ).loc main_v1) ↦{fullShare} f)) : sProp 𝕄) := by
  have e (h : Fin 2) : (oM.access (colRect h)).set = (colRect h).set := View.set_slice_whole main_v1 (colRect h)
  unfold outP
  iintro ⟨⟨%f0, %h0, H0⟩, ⟨%f1, %h1, H1⟩⟩
  have hf : ∀ h : Fin 2, (oM.access (colRect h)).read (Elt F) ((match h with | 0 => f0 | 1 => f1) : Buf (Elt F) ((c : Thread nD τ).loc main_v1)) = Z h := by
    intro h
    match h with
    | 0 => exact h0
    | 1 => exact h1
  ihave H := (pointsTo_biUnion_join (ℓ := (c : Thread nD τ).loc main_v1) (q := fullShare) Finset.univ (fun h : Fin 2 => (colRect h).set)
    (fun h => match h with | 0 => f0 | 1 => f1) f0 fun k _ k' _ h => col_disjoint (Finset.mem_coe.mpr (Finset.mem_univ k)) (Finset.mem_coe.mpr (Finset.mem_univ k')) h) $$ [H0 H1]
  · rw [bigSep_two]
    isplitl [H0]
    · rw [← e 0]; iexact H0
    · rw [← e 1]; iexact H1
  icases H with ⟨%g, %hg, H⟩
  iexists g
  isplitr
  · ipureintro
    intro h
    rw [← hf h]
    exact View.read_congr fun i hi => hg h (Finset.mem_univ h) i (by rw [← e h]; exact hi)
  · rw [← col_cover]; iexact H

/-! ## The input -/

/-- What of `x` the copies do not read, at their shares. -/
def xRest : sProp 𝕄 := bigSep Finset.univ fun j : Fin 4 =>
  ((c : Thread nD τ).loc main_arg0) ↦[Finset.univ \ (xSl c j).view.set]{xq j} m ((c : Thread nD τ).loc main_arg0)

/-- A buffer owned in four quarters. -/
theorem quarters (ℓ : Loc nD τ sig) (f : Buf (Elt F) ℓ) : (ℓ ↦{fullShare} f : sProp 𝕄) ⊣⊢ bigSep Finset.univ fun j : Fin 4 => ℓ ↦{xq j} f := by
  rw [bigSep_four]
  constructor
  · iintro H
    ihave H := (pointsTo_share (PosShare.mem_left_op_right fullShare)).1 $$ H
    icases H with ⟨Hl, Hr⟩
    ihave H := (pointsTo_share (PosShare.mem_left_op_right fullShare.left)).1 $$ Hl
    icases H with ⟨H0, H1⟩
    ihave H := (pointsTo_share (PosShare.mem_left_op_right fullShare.right)).1 $$ Hr
    icases H with ⟨H2, H3⟩
    isplitl [H0]; · iexact H0
    isplitl [H1]; · iexact H1
    isplitl [H2]; · iexact H2
    iexact H3
  · iintro ⟨H0, H1, H2, H3⟩
    iapply (pointsTo_share (PosShare.mem_left_op_right fullShare)).2
    isplitl [H0 H1]
    · iapply (pointsTo_share (PosShare.mem_left_op_right fullShare.left)).2
      isplitl [H0]; · iexact H0
      iexact H1
    · iapply (pointsTo_share (PosShare.mem_left_op_right fullShare.right)).2
      isplitl [H2]; · iexact H2
      iexact H3

/-- `x` is the rows the four copies read, each at a quarter of its ownership, and the rest. -/
theorem x_deal : (((c : Thread nD τ).loc main_arg0) ↦{fullShare} m ((c : Thread nD τ).loc main_arg0) : sProp 𝕄) ⊣⊢ iprop(bigSep Finset.univ (xIn m c) ∗ xRest m c) := by
  have e (j : Fin 4) : (((c : Thread nD τ).loc main_arg0) ↦{xq j} m ((c : Thread nD τ).loc main_arg0) : sProp 𝕄)
      ⊣⊢ iprop(xIn m c j ∗ (((c : Thread nD τ).loc main_arg0) ↦[Finset.univ \ (xSl c j).view.set]{xq j} m ((c : Thread nD τ).loc main_arg0))) :=
    pointsTo_split_subset (Finset.subset_univ _)
  unfold xRest
  rw [← bigSep_sep']
  exact ⟨(quarters _ _).1.trans (bigSep_mono fun j _ => (e j).1), (bigSep_mono fun j _ => (e j).2).trans (quarters _ _).2⟩

end Ring
-- ==== Proof.Run.lean ====
/-
# The run

At the compiled mesh of four devices, for any float values and from any memory with zero counters, every fair execution of the
program ends with every argument unchanged, every semaphore at zero and, on every device, the result the ring computes.
-/
module

public import proofs.«01_k».proof.Proof.Ghost
public import proofs.«01_k».proof.Proof.Deal
public import Idealize.ShloMosaic.Lib.Pipeline.CollectiveSegs

@[expose] public section

noncomputable section

namespace Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit tileCredit_pos)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What is held around the kernel -/

/-- The memory at launch, all counters zero. -/
abbrev s₀ : MemSt nD τ sig (Elt F) := ⟨m, fun _ => 0, ρ⟩

/-- The arrays a device's transfers address themselves, as launched. -/
def arrs : sProp 𝕄 :=
  iprop((((c : Thread nD τ).loc main_arg0) ↦{fullShare} m ((c : Thread nD τ).loc main_arg0)) ∗ (((c : Thread nD τ).loc main_v1) ↦{fullShare} m ((c : Thread nD τ).loc main_v1)))

/-- What a device starts from, its scratch buffers apart. -/
def start : sProp 𝕄 := iprop((∃ K, ctx m K) ∗ ((dutyTok ER (barCell (src false c)) 0 false ∗ dutyTok ER (barCell (src true c)) 0 true
      ∗ cred (tallyAt (barCell c) () 2) ∗ atPos ER (barCell c) 0 ∅ 0) ∗ bigSep Finset.univ (given c)) ∗ arrs m c)

/-- A device's scratch buffers. -/
def scratch : sProp 𝕄 := iprop(scr c cc0_scratch0 ∗ scr c cc0_scratch1 ∗ scr c cc0_scratch2 ∗ scr c cc0_scratch3 ∗ scr c cc0_scratch4 ∗ scr c cc0_scratch5)

/-- That array of a device's block of the result has in each column half what the ring computes. -/
def IsOut (f : Buf (Elt F) ((c : Thread nD τ).loc main_v1)) : Prop :=
  ∀ h : Fin 2, (oM.access (colRect h)).read (Elt F) f = joinH (outv m c (dirOf h))

/-- What a device ends with, its scratch buffers and its own semaphores apart. -/
def finish : sProp 𝕄 := iprop(unscopedSems0 c ∗ (((c : Thread nD τ).loc main_arg0) ↦{fullShare} m ((c : Thread nD τ).loc main_arg0))
    ∗ ∃ f : Buf (Elt F) ((c : Thread nD τ).loc main_v1), ⌜IsOut m c f⌝ ∗ (((c : Thread nD τ).loc main_v1) ↦{fullShare} f))

/-- The proof data of the one region: three windows fetched, everything else the kernel's own. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => wstg m c
    | ⟨1, _⟩ => sxstg m c
    | ⟨2, _⟩ => swstg m c
  Φ t := match t with
    | ⟨0, _⟩ => iprop(start m c ∗ scratch c)
    | ⟨_ + 1, _⟩ => iprop(finish m c ∗ own0 c ∗ scratch c)
  q _ := fullShare
  owed t := match t with
    | ⟨0, _⟩ => O₀ c
    | ⟨_ + 1, _⟩ => 0

/-! ## The body's obligation -/

/-- A staging buffer at given contents. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the body leaves. -/
def bodyPost : sProp 𝕄 :=
  iprop((finish m c ∗ own0 c ∗ scratch c) ∗ (dats m ρ 0 c).owesAt () t0_0.succ ∗ stg c cc0_stg0_0 (wstg m c) ∗ stg c cc0_stg1_0 (sxstg m c) ∗ stg c cc0_stg2_0 (swstg m c))

theorem before_0 (d) : (dats m ρ 0 c).before (0 : Fin 3) t0_0 d = wstg m c := by unfold Dat.before; rw [if_pos (fetch0_0 t0_0)]; rfl
theorem before_1 (d) : (dats m ρ 0 c).before (1 : Fin 3) t0_0 d = sxstg m c := by unfold Dat.before; rw [if_pos (fetch0_1 t0_0)]; rfl
theorem before_2 (d) : (dats m ρ 0 c).before (2 : Fin 3) t0_0 d = swstg m c := by unfold Dat.before; rw [if_pos (fetch0_2 t0_0)]; rfl

/-- What the body starts from. -/
def bodyPre : sProp 𝕄 :=
  iprop((start m c ∗ scratch c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- The end of the body: the buffers put back together. -/
theorem body_end :
    iprop((owe c 12 ∗ semVal (barCell c) 0 ∗ zeros c ∗ recvAll c false ∗ recvAll c true ∗ sendAll c false ∗ sendAll c true ∗ (bigSep Finset.univ (slotAny c)) ∗ (outP c 0 (joinH (outv m c false)) ∗ outP c 1 (joinH (outv m c true))) ∗ (bigSep Finset.univ (xIn m c)) ∗ qPt m c ∗ xPt m c ∗ yPt m c ∗ wAny c) ∗ xRest m c)
      ⊢ bodyPost m ρ c := by
  iintro ⟨⟨HO, HB, HZ, Hr0, Hr1, HS0, HS1, Ha, Hp, Hx, Hq, Hs1, Hs2, Hw⟩, HxR⟩
  ihave HR := (recv_undeal m c) $$ [Hr0 Hr1]
  · isplitl [Hr0]; · iexact Hr0
    iexact Hr1
  ihave HS := (send_undeal m c) $$ [HS0 HS1]
  · isplitl [HS0]; · iexact HS0
    iexact HS1
  icases HR with ⟨H3, H5⟩
  icases HS with ⟨H2, H4⟩
  ihave H0 := (slots_undeal m c) $$ Ha
  have hY : iprop(outP c 0 (joinH (outv m c false)) ∗ outP c 1 (joinH (outv m c true))) ⊢ (iprop(∃ f : Buf (Elt F) ((c : Thread nD τ).loc main_v1),
      ⌜IsOut m c f⌝ ∗ (((c : Thread nD τ).loc main_v1) ↦{fullShare} f)) : sProp 𝕄) := out_undeal c fun h => joinH (outv m c (dirOf h))
  ihave HY := hY $$ Hp
  ihave HX := (x_deal m c).2 $$ [Hx HxR]
  · isplitl [Hx]; · iexact Hx
    iexact HxR
  unfold bodyPost finish scratch Dat.owesAt Pipeline.owesWithin
  rw [show (dats m ρ 0 c).owed t0_0.succ = 0 from rfl, own0_eq, unscopedSems0_eq]
  isplitl [HB HX HY HZ H0 Hw H2 H3 H4 H5]
  · isplitl [HB HX HY]
    · isplitl [HB]; · iexact HB
      isplitl [HX]; · iexact HX
      iexact HY
    isplitl [HZ]; · iexact HZ
    isplitl [H0]; · iexact H0
    isplitl [Hw]; · iexact Hw
    isplitl [H2]; · iexact H2
    isplitl [H3]; · iexact H3
    isplitl [H4]; · iexact H4
    iexact H5
  isplitl [HO]
  · have hO : owe c 12 ⊢ (iprop(∃ W, owes (c : Thread nD τ) 0 W) : sProp 𝕄) := by
      unfold owe owing
      exact BI.Entails.refl _
    ihave HO := hO $$ HO
    icases HO with ⟨%W, HO⟩
    iexists W
    isplitr; · ipureintro; exact fun _ _ => Or.inl trivial
    iexact HO
  isplitl [Hq]
  · iexists _; isplitr; · (ipureintro; rfl)
    iexact Hq
  isplitl [Hs1]
  · iexists _; isplitr; · (ipureintro; rfl)
    iexact Hs1
  iexists _; isplitr; · (ipureintro; rfl)
  iexact Hs2

/-- The body from `bodyPre` to `bodyPost`. -/
theorem body_run :
    bodyPre m ρ c ⊢ WP c (cc0_body xM (Memref.isWhole_whole _) (Memref.whole cc0_stg0_0) (Memref.isWhole_whole _) (Memref.whole cc0_stg1_0) (Memref.isWhole_whole _) (Memref.whole cc0_stg2_0) (Memref.isWhole_whole _) oM (Memref.isWhole_whole _) fM (Memref.isWhole_whole _) wM (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) (fun _ => bodyPost m ρ c) := by
  unfold bodyPre start arrs scratch
  iintro ⟨⟨⟨⟨%K, #Hc⟩, ⟨⟨Hd0, Hd1, HcB, HaB⟩, HG⟩, HX, HY⟩, H0, H1, H2, H3, H4, H5⟩, Ho, ⟨%d0, %g0, %hg0, Hq⟩, ⟨%d1, %g1, %hg1, Hs1⟩, ⟨%d2, %g2, %hg2, Hs2⟩⟩
  rw [before_0] at hg0
  rw [before_1] at hg1
  rw [before_2] at hg2
  subst hg0 hg1 hg2
  ihave HR := (recv_deal c) $$ [H3 H5]
  · isplitl [H3]; · iexact H3
    iexact H5
  ihave HS := (send_deal c) $$ [H2 H4]
  · isplitl [H2]; · iexact H2
    iexact H4
  icases HR with ⟨Hr0, Hr1⟩
  icases HS with ⟨HS0, HS1⟩
  ihave Ha := (slots_deal c) $$ H0
  ihave Hp := (out_deal c _) $$ HY
  ihave HX := (x_deal m c).1 $$ HX
  icases HX with ⟨Hx, HxR⟩
  unfold Dat.owesAt Pipeline.owesWithin
  rw [show (dats m ρ 0 c).owed t0_0.castSucc = O₀ c from rfl]
  icases Ho with ⟨%W, -, HO⟩
  ihave HO := (show owes (c : Thread nD τ) (O₀ c) W ⊢ (owing c (O₀ c) : sProp 𝕄) from by
    unfold owing
    iintro H
    iexists W; iexact H) $$ HO
  iapply (body m K c) $$ Hc HO Hd0 Hd1 HcB HaB HG Hr0 Hr1 HS0 HS1 Ha Hp Hx Hq Hs1 Hs2 H1
  iintro H
  iapply (body_end m ρ c)
  isplitl [H]; · iexact H
  iexact HxR

set_option maxRecDepth 8000 in
/-- The region's obligation on the body. -/
theorem body_obligation : BodyObligation (dats (F := F) m ρ 0 c) (defs₀ (F := F)) 𝒱₀ () Set.univ := fun t => by
  rw [fin_N0 t]
  rw [show (bigSep Finset.univ : (Fin cfg0.W → sProp 𝕄) → sProp 𝕄) = fun Φ => iprop(Φ (0 : Fin 3) ∗ Φ (1 : Fin 3) ∗ Φ (2 : Fin 3)) from funext bigSep_W0]
  simp only [owns_whole_eq]
  exact body_run m ρ c

/-! ## The launch -/

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(start m c ∗ emp) : sProp 𝕄) := by
  have e : (Pipeline.unscopedRestP (Ix := Unit) (Name := ℕ) (U := UU) (Lvl := ℕ) Pipeline.Prefetch.none cfg0.spec c (fun b => m ((c : Thread nD τ).loc b)) : sProp 𝕄) = arrs m c := by
    rw [Pipeline.unscopedRestP_eq_of_list cfg0.spec c Pipeline.Prefetch.none (fun b => m ((c : Thread nD τ).loc b)) [main_arg0, main_v1] (by decide) (by decide)]
    rfl
  rw [e]
  unfold start G' ctx
  iintro ⟨HA, #Hlev, Hcr, -, ⟨%K, #HK, HL⟩⟩
  ihave HG := (given_intro c) $$ [HL Hcr]
  · isplitl [HL]; · iexact HL
    iexact Hcr
  imodintro
  isplitl
  · isplitr
    · iexists K
      isplitr; · iexact HK
      iexact Hlev
    isplitl [HG]; · iexact HG
    iexact HA
  · iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scopedRest0_eq]
  unfold scratch
  iintro ⟨Hs, -, Hr⟩
  isplitl [Hs]; · iexact Hs
  iexact Hr

theorem phi1_exit :
    (dats m ρ 0 c).Φ (Fin.last cfg0.N) ⊢ iprop(finish m c ∗ Pipeline.ownSems0 osem c ∗ Pipeline.scopedRest cfg0.spec c) := by
  rw [show (dats m ρ 0 c).Φ (Fin.last cfg0.N) = iprop(finish m c ∗ own0 c ∗ scratch c) from rfl, scopedRest0_eq]
  exact BI.Entails.refl _

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the memory holds on device `c` at the end: the barrier at zero, `x` as launched, the result. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ IsOut m c (s.mem ((c : Thread nD τ).loc main_v1))

theorem ends_read (s' : Phys nD τ sig (Elt F)) : iprop(finish m c ∗ emp ∗ SI s') ⊢ |={Set.univ}=> (iprop(⌜Ends m c s'.mem⌝ ∗ SI s') : sProp 𝕄) := by
  unfold finish
  iintro ⟨⟨Hu, HX, ⟨%f, %hf, HY⟩⟩, -, HSI⟩
  icombine HSI HX gives %hx
  icombine HSI HY gives %hy
  imod (Pipeline.unscopedSems0_read (X := unscopedSems0 c) (c := c) fupd_intro s') $$ [Hu HSI] with ⟨%hs, HSI⟩
  · isplitl [Hu]; · iexact Hu
    iexact HSI
  imodintro
  isplitr
  · ipureintro
    refine ⟨hs, funext fun i => hx i (Finset.mem_univ i), ?_⟩
    have e : s'.mem.mem ((c : Thread nD τ).loc main_v1) = f := funext fun i => hy i (Finset.mem_univ i)
    rw [e]
    exact hf
  · iexact HSI

/-- The end of the run: every device's arguments as launched and its block of the result what the ring computes. -/
def QC (r : PUnit × MemSt nD τ sig (Elt F)) : Prop :=
  ∀ c : Dev nD, (r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3))
    ∧ IsOut m c (r.2.mem ((c : Thread nD τ).loc main_v1))

set_option maxRecDepth 8000 in
/-- Every fair execution from zero counters ends so, with every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := fun w => block_pos0 w) (harr := arr_whole0) (hstage := stage_whole0) (hshare := fun c w => share_eq m ρ c w)
    (hdistinct := winFacts0.arr_inj)
    (O₀ := O₀) (howed₀ := fun _ => rfl) (howedN := fun _ => rfl)
    (L := L) (lv := lv) (hL := L_of_ne) (hwaits := fun c => waits m ρ c)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := finish m) (Z := fun _ => iprop(emp))
    (hX := fun c => start_intro m ρ c) (hin := fun c => phi0_intro m ρ c) (hout := fun c => phi1_exit m ρ c)
    (QY := Ends m)
    (hY := fun c s' => ends_read m c s')
    (hQ := fun s h hs => ⟨fun c => ⟨⟨(h c).2.2.2.1,
        ((h c).1 (0 : Fin 3)).trans ((dats (F := F) m ρ 0 c).arrAt_in (0 : Fin 3) rfl _),
        ((h c).1 (1 : Fin 3)).trans ((dats (F := F) m ρ 0 c).arrAt_in (1 : Fin 3) rfl _),
        ((h c).1 (2 : Fin 3)).trans ((dats (F := F) m ρ 0 c).arrAt_in (2 : Fin 3) rfl _)⟩, (h c).2.2.2.2⟩, sem_eq_zero hs fun c => (h c).2.2.1⟩)

end Ring
-- ==== Proof.Frames.lean ====
/-
# The frame claims of the two readings of the kernel

The program's text is the same read at bits and read at the ideal values, so the one run gives both.
-/
module

public import proofs.«01_k».proof.Defs
public import proofs.«01_k».proof.Proof.Gen.Kernel
public import proofs.«01_k».proof.Proof.Run

@[expose] public section

noncomputable section

namespace Ring

open Idealize.ShloMosaic Idealize.SL.Sem

section Text
variable {F : FTy → Type} [FloatOps F]

/-- The two modules' core bodies are one program, label by label. -/
theorem defs₀_tc (l : Cert.KernelIdeal.Λ₀.Label) (x : Cert.KernelIdeal.Λ₀.Args l) :
    Cert.Kernel.defs₀ (F := F) .tc l x = Cert.KernelIdeal.defs₀ (F := F) .tc l x := by
  match l, x with
  | ⟨0, _⟩, (t, s) =>
    unfold Cert.Kernel.defs₀ Cert.KernelIdeal.defs₀
    simp only [Defs.onTc_tc]
    rfl
  | ⟨_ + 1, h⟩, _ => exact absurd h (Nat.not_lt.2 (Nat.le_add_left _ _))

/-- So the two modules define the same bodies on every processor. -/
theorem defs₀_eq : Cert.Kernel.defs₀ (F := F) = Cert.KernelIdeal.defs₀ (F := F) := by
  funext p l x
  cases p
  · exact defs₀_tc l x
  all_goals rfl

/-- And the same definitions once the pallas_call is added. -/
theorem defs_eq : Cert.Kernel.defs (F := F) = Cert.KernelIdeal.defs (F := F) :=
  congrArg (Pipeline.defs Cert.KernelIdeal.pcfgs) defs₀_eq

/-- The two modules' main functions are one program. -/
theorem main_eq : Cert.Kernel.main (F := F) = Cert.KernelIdeal.main (F := F) := rfl

/-- Running the one module is running the other. -/
theorem θ_run_eq : θ_run (Cert.Kernel.defs (F := F)) (onTc (τ := Cert.Kernel.τ) Cert.Kernel.main)
    = θ_run (Cert.KernelIdeal.defs (F := F)) (onTc (τ := Cert.KernelIdeal.τ) Cert.KernelIdeal.main) := by
  rw [defs_eq, main_eq]

end Text

/-- The kernel read at the ideal values runs, its arguments end as launched and every counter at zero. -/
theorem frame_ideal : letI := Cert.KernelIdeal.Gen.facts; Cert.quiescent_KernelIdeal := fun m ρ _ =>
  (θ_run (Cert.KernelIdeal.defs (F := Ideal)) _ _).mono
    (fun _ h => ⟨fun c => (h.1 c).1, h.2⟩) (run_main (F := Ideal) m ρ)

/-- The kernel read at bits runs, its arguments end as launched and every counter at zero. -/
theorem frame_kernel : letI := Cert.Kernel.Gen.facts; Cert.quiescent_Kernel := fun m ρ _ => by
  have h := (θ_run (Cert.KernelIdeal.defs (F := Bits)) _ _).mono
    (fun _ h => (⟨fun c => (h.1 c).1, h.2⟩ : _ ∧ _)) (run_main (F := Bits) m ρ)
  rw [← θ_run_eq (F := Bits)] at h
  exact h

end Ring

end
-- ==== Proof.Blocks.lean ====
/-
# One block's computation over the extended reals

Read at the ideal values, each stored block of the kernel is a plain sum: a product of a 512-row block of `x`
with a column half of the weights, the partial sum that arrived added to it, and at the end the scale and the
maximum with zero.
-/
module

public import proofs.«01_k».proof.Proof.Protocol
public import Idealize.ShloMosaic.Lib.ValueIdx
public import Idealize.ShloMosaic.Lib.MatmulPlain
public import Idealize.ShloMosaic.PureOps.Ideal.Laws

@[expose] public section

noncomputable section

namespace Ring

open Cert.KernelIdeal Cert.KernelIdeal.Gen
open Idealize.ShloMosaic Idealize.ShloMosaic.ValueIdx

/-- A block of `x` times a column half of the weights, at row `i` and column `j`. -/
def dotB (X : Vec Ideal S1x512x1024 .f32) (W : Vec Ideal S1024x1024 .bf16) (i : Fin 512) (j : Fin 1024) : EReal :=
  ∑ k : Fin 1024, (X (hx i k) : EReal) * W (sq k j)

/-- The kernel's products contract the columns of the left block with the rows of the right one. -/
theorem dims_plain : dot_S512x1024_S1024x1024_S512x1024_1_0_0_1_n_n = DotDims.plain 512 1024 1024 := rfl

/-- The final product, read at an index. -/
theorem pay26_apply (X : Vec Ideal S1x512x1024 .f32) (W : Vec Ideal S1024x1024 .bf16) (i : Fin 512) (j : Fin 1024) :
    (k0_pay26 X W (ix2 i j) : EReal) = dotB X W i j := by
  unfold k0_pay26 dotB
  rw [matmul, dims_plain, Ideal.matmul_plain_apply, constant_apply]
  refine (congrArg (· + _) Ideal.ofBits_zero_f32).trans ((zero_add _).trans ?_)
  refine Finset.sum_congr rfl fun k _ => ?_
  rw [truncf_apply, shapeCast_1ab_ab_apply]
  rfl

/-- A product that is sent on is the same sum. -/
theorem pay5_apply (X : Vec Ideal S1x512x1024 .f32) (W : Vec Ideal S1024x1024 .bf16) (i : Fin 512) (j : Fin 1024) :
    (k0_pay5 X W (ix2 i j) : EReal) = dotB X W i j := pay26_apply X W i j

/-- So is the first one sent. -/
theorem pay2_apply (X : Vec Ideal S1x512x1024 .f32) (W : Vec Ideal S1024x1024 .bf16) (i : Fin 512) (j : Fin 1024) :
    (k0_pay2 X W (hx i j) : EReal) = dotB X W i j :=
  (shapeCast_ab_1ab_apply _ _ (0 : Fin 1) i j).trans (pay26_apply X W i j)

/-- The arrived partial sum is added element by element. -/
theorem pay12_apply (Y : FVec Ideal S512x1024 .bf16) (V : Vec Ideal S1x512x1024 .bf16) (i : Fin 512) (j : Fin 1024) :
    (k0_pay12 Y V (hx i j) : EReal) = (Y (ix2 i j) : EReal) + V (hx i j) := by
  unfold k0_pay12
  refine (shapeCast_ab_1ab_apply _ _ (0 : Fin 1) i j).trans ?_
  rw [addf_apply, shapeCast_1ab_ab_apply]
  rfl

/-- The last step adds the arrived partial sum, scales, and takes the maximum with zero. -/
theorem pay30_apply (s : EReal) (Y : FVec Ideal S512x1024 .f32) (V : Vec Ideal S1x512x1024 .bf16) (i : Fin 512) (j : Fin 1024) :
    (k0_pay30 (F := Ideal) s Y V (hx i j) : EReal) = max (((Y (ix2 i j) : EReal) + V (hx i j)) * s) 0 := by
  unfold k0_pay30
  refine (shapeCast_ab_1ab_apply _ _ (0 : Fin 1) i j).trans ?_
  rw [maximumf_apply, mulf_apply, addf_apply, extf_apply, shapeCast_1ab_ab_apply, broadcast_apply, broadcast_apply]
  refine congrArg (max _) ?_
  exact Ideal.ofBits_zero_f32

end Ring

end
-- ==== Proof.KernelValue.lean ====
/-
# What the ring of devices computes

Every block that travels is a partial sum of one output block.  By the time it reaches its owner it has collected the
products of all four devices, so a device's result is the sum over the devices, whichever way round they were met.
-/
module

public import proofs.«01_k».proof.Proof.Blocks
public import Idealize.ShloMosaic.Lib.Pipeline.ValueKit

@[expose] public section

noncomputable section

namespace Ring

open Cert.KernelIdeal Cert.KernelIdeal.Gen
open Idealize.ShloMosaic hiding ix1 ix2 ix3
open Idealize.ShloMosaic.ValueIdx Idealize.ShloMosaic.TcCoe

variable (m : (ℓ : Loc nD τ sig) → Buf (Elt Ideal) ℓ)

/-- The columns of `x` that device `c` holds. -/
def xD (c : Dev nD) : S4096x1024.Idx → EReal := m ((c : Thread nD τ).loc main_arg0)
/-- The rows of the weights that device `c` holds. -/
def wD (c : Dev nD) : S1024x2048.Idx → EReal := m ((c : Thread nD τ).loc main_arg1)
/-- The two scales, as device `c` holds them. -/
def sD (c : Dev nD) : S1.Idx → EReal := m ((c : Thread nD τ).loc main_arg2)
def tD (c : Dev nD) : S1.Idx → EReal := m ((c : Thread nD τ).loc main_arg3)

/-- Device `c`'s share of the product at row `r` and column `n`. -/
def part (r : Fin 4096) (n : Fin 2048) (c : Dev nD) : EReal := ∑ k : Fin 1024, xD m c (ix2 r k) * wD m c (ix2 k n)

set_option backward.proofsInPublic true in
/-- Column `j` of column half `h`. -/
def colN (h : Fin 2) (j : Fin 1024) : Fin 2048 := ⟨1024 * h.val + j.val, by omega⟩
set_option backward.proofsInPublic true in
/-- Row `i` of half `b` of the rows device `c` owns. -/
def rowN (c : Dev nD) (b : Fin 2) (i : Fin 512) : Fin 4096 := ⟨1024 * c.val + 512 * b.val + i.val, by have : c.val < 4 := c.isLt; omega⟩

/-- The weights' staging buffer holds the device's rows of them, -/
theorem wstg_eq (c : Dev nD) : wstg m c = m ((c : Thread nD τ).loc main_arg1) :=
  funext fun i => congrArg (m ((c : Thread nD τ).loc main_arg1)) (funext fun a => Fin.ext
    (Pipeline.Window.rect_emb_val_of_index_zero win0_0 (0 : Fin 1) a (by revert a; decide) i))
/-- and the scales' the scales. -/
theorem sxstg_eq (c : Dev nD) : sxstg m c = m ((c : Thread nD τ).loc main_arg2) :=
  funext fun i => congrArg (m ((c : Thread nD τ).loc main_arg2)) (funext fun a => Fin.ext
    (Pipeline.Window.rect_emb_val_of_index_zero win0_1 (0 : Fin 1) a (by revert a; decide) i))
theorem swstg_eq (c : Dev nD) : swstg m c = m ((c : Thread nD τ).loc main_arg3) :=
  funext fun i => congrArg (m ((c : Thread nD τ).loc main_arg3)) (funext fun a => Fin.ext
    (Pipeline.Window.rect_emb_val_of_index_zero win0_2 (0 : Fin 1) a (by revert a; decide) i))

/-- The scale the result is multiplied by. -/
theorem scale_eq (c : Dev nD) : (scale m c : EReal) = sD m c (ix1 0) * tD m c (ix1 0) := by
  have h : ixS = ix1 (0 : Fin 1) := funext fun a => by
    have ha : a = (0 : Fin 1) := Subsingleton.elim (α := Fin 1) _ _
    subst ha; exact Subsingleton.elim (α := Fin 1) _ _
  unfold scale k0_pay7
  rw [sxstg_eq, swstg_eq, h]
  rfl

/-- The weights in the working format are the weights. -/
theorem wv_apply (c : Dev nD) (i : S1024x2048.Idx) : (wv m c i : EReal) = wD m c i := by
  unfold wv k0_pay1
  rw [wstg_eq, shapeCast_self, extf_apply, shapeCast_self]
  rfl

/-- A column half of them, read at an index. -/
theorem Wh_apply (c : Dev nD) (h : Fin 2) (k j : Fin 1024) : (Wh m c h (sq k j) : EReal) = wD m c (ix2 k (colN h j)) := by
  have hi : (wM.access (colRect h)).emb (sq k j) = ix2 k (colN h j) := by
    funext a
    match a with
    | ⟨0, _⟩ => exact Fin.ext (by show 0 + 1 * k.val = k.val; omega)
    | ⟨1, _⟩ => exact Fin.ext (by show 1024 * h.val + 1 * j.val = 1024 * h.val + j.val; omega)
  exact (congrArg (wv m c) hi).trans (wv_apply m c _)

/-- A block product is the device's share at its row and column. -/
theorem dotB_part (c c' : Dev nD) (s : Fin 4) (hs : chunk c s = c'.val) (b : Fin 2) (h : Fin 2) (i : Fin 512) (j : Fin 1024) :
    dotB (xh m c s b) (Wh m c h) i j = part m (rowN c' b i) (colN h j) c := by
  have hr : rowX c s b i = rowN c' b i := Fin.ext (by show 1024 * chunk c s + 512 * b.val + i.val = _; rw [hs]; rfl)
  refine Finset.sum_congr rfl fun k _ => ?_
  rw [Wh_apply, ← hr]
  rfl

/-- The chunk multiplied at each step is the one that belongs to the device the sum is on its way to. -/
theorem chunk_own (c : Dev nD) : chunk c 3 = c.val := rfl
theorem chunk_two : ∀ (d : Bool) (c : Dev nD), chunk (src d c) (slotOf d 2) = c.val := by decide
theorem chunk_one : ∀ (d : Bool) (c : Dev nD), chunk (src d (src d c)) (slotOf d 1) = c.val := by decide
theorem chunk_zero : ∀ (d : Bool) (c : Dev nD), chunk (src d (src d (src d c))) (slotOf d 0) = c.val := by decide

/-- What arrives at its owner is the sum of the other three devices' shares. -/
theorem sv_apply (d : Bool) (b : Fin 2) (c : Dev nD) (i : Fin 512) (j : Fin 1024) :
    (sv m d b 2 (src d c) (hx i j) : EReal)
      = part m (rowN c b i) (colN (half d) j) (src d c)
        + (part m (rowN c b i) (colN (half d) j) (src d (src d c))
          + part m (rowN c b i) (colN (half d) j) (src d (src d (src d c)))) := by
  rw [sv, pay12_apply, pay5_apply, dotB_part m _ c _ (chunk_two d c), sv, pay12_apply, pay5_apply,
    dotB_part m _ c _ (chunk_one d c), sv, pay2_apply, dotB_part m _ c _ (chunk_zero d c)]

/-- Going round the ring meets every device once. -/
theorem sum_ring (f : Dev nD → EReal) (d : Bool) (c : Dev nD) :
    f c + (f (src d c) + (f (src d (src d c)) + f (src d (src d (src d c))))) = ∑ e : Fin 4, f e := by
  rw [Fin.sum_univ_four]
  revert d c
  intro d c
  match d, c with
  | false, 0 => show f 0 + (f 3 + (f 2 + f 1)) = _; ac_rfl
  | false, 1 => show f 1 + (f 0 + (f 3 + f 2)) = _; ac_rfl
  | false, 2 => show f 2 + (f 1 + (f 0 + f 3)) = _; ac_rfl
  | false, 3 => show f 3 + (f 2 + (f 1 + f 0)) = _; ac_rfl
  | true, 0 => show f 0 + (f 1 + (f 2 + f 3)) = _; ac_rfl
  | true, 1 => show f 1 + (f 2 + (f 3 + f 0)) = _; ac_rfl
  | true, 2 => show f 2 + (f 3 + (f 0 + f 1)) = _; ac_rfl
  | true, 3 => show f 3 + (f 0 + (f 1 + f 2)) = _; ac_rfl

/-- Half `b` of a column half of the result: the four shares added, scaled, and at least zero. -/
theorem outv_apply (c : Dev nD) (d : Bool) (b : Fin 2) (i : Fin 512) (j : Fin 1024) :
    (outv m c d b (hx i j) : EReal)
      = max ((∑ e : Fin 4, part m (rowN c b i) (colN (half d) j) e) * (sD m c (ix1 0) * tD m c (ix1 0))) 0 := by
  rw [outv, pay30_apply, pay26_apply, sv_apply, dotB_part m c c 3 (chunk_own c), scale_eq,
    sum_ring (part m (rowN c b i) (colN (half d) j)) d c]

end Ring

end
-- ==== Proof.RefValue.lean ====
/-
# What the reference computes

The reference is one pallas_call on whole arrays.  Its result, read at the ideal values, is the maximum with zero of
the scaled 4096-term product of a row of `x` and a column of the weights.
-/
module

public import proofs.«01_k».proof.Proof.Gen.ReferenceIdeal.Value
public import Idealize.ShloMosaic.Lib.Pipeline.ValueKit
public import Idealize.ShloMosaic.Lib.ValueIdx
public import Idealize.ShloMosaic.Lib.MatmulPlain
public import Idealize.ShloMosaic.PureOps.Ideal.Laws

@[expose] public section

noncomputable section

namespace Ring.Ref

open Cert.ReferenceIdeal Cert.ReferenceIdeal.Gen Cert.ReferenceIdeal.Value
open Idealize.ShloMosaic hiding ix1 ix2 maximumf_apply mulf_apply
open Idealize.ShloMosaic.ValueIdx Idealize.ShloMosaic.TcCoe Idealize.SL.Sem

theorem zero2 : (![0, 0] : Fin 2 → ℕ) = 0 := by decide

section Stored
variable {F : FTy → Type} [FloatOps F]

/-- An array of one element is read at that element, however it is loaded. -/
theorem load_one (x : Vec F S1 .f32) (r : Rect S1) (i : r.shape.Idx) : View.ld x r i = x (ix1 0) :=
  congrArg x (funext fun a => by
    have ha : a = (0 : Fin 1) := Subsingleton.elim (α := Fin 1) _ _
    subst ha
    exact Subsingleton.elim (α := Fin 1) _ _)

/-- The body's one store covers the result with its payload of the four blocks. -/
theorem out_eq (c : Dev nD) (arg0 : Memref sig .tc .vmem S4096x4096 .f32) (harg0 : arg0.IsWhole)
    (arg1 : Memref sig .tc .vmem S4096x2048 .fp8e5m2) (harg1 : arg1.IsWhole)
    (arg2 : Memref sig .tc .smem S1 .f32) (harg2 : arg2.IsWhole) (arg3 : Memref sig .tc .smem S1 .f32) (harg3 : arg3.IsWhole)
    (arg4 : Memref sig .tc .vmem S4096x2048 .f32) (harg4 : arg4.IsWhole)
    (x0 : Vec F S4096x4096 .f32) (x1 : Vec F S4096x2048 .fp8e5m2) (x2 : Vec F S1 .f32) (x3 : Vec F S1 .f32) :
    out0_A_4 c arg0 harg0 arg1 harg1 arg2 harg2 arg3 harg3 arg4 harg4 x0 x1 x2 x3
      = k0_pay1 x0 x1 (x2 (ix1 0)) (x3 (ix1 0)) := by
  unfold out0_A_4
  rw [View.read_writes_eq_canon _ _ _ (cover0_A_4 c arg0 harg0 arg1 harg1 arg2 harg2 arg3 harg3 arg4 harg4 x0 x1 x2 x3)]
  unfold kernelRun0_A
  dsimp only
  rw [View.canon_unit_zero zero2]
  simp only [View.readAt_eq_ld, harg0.read_unread, harg1.read_unread, View.ld_unit_zero (S := S4096x4096) zero2,
    View.ld_unit_zero (S := S4096x2048) zero2]
  unfold kernelRun0_A.sl.r kernelRun0_A.sl.r_1
  simp only [View.readAt_eq_ld, harg2.read_unread, harg3.read_unread]
  exact congrArg₂ (k0_pay1 x0 x1) (load_one x2 _ _) (load_one x3 _ _)

variable (m : (ℓ : Loc nD τ sig) → Buf (Elt F) ℓ)

/-- The one grid point. -/
abbrev pt : Fin cfg0.N := (0 : Fin 1)

/-- Every window's block is its whole array. -/
theorem iblk0 (c : Dev nD) : iblk m c 0 pt = m ((c : Thread nD τ).loc main_arg0) :=
  funext fun i => congrArg (m ((c : Thread nD τ).loc main_arg0)) (funext fun a => Fin.ext
    (Pipeline.Window.rect_emb_val_of_index_zero win0_0 (0 : Fin 1) a (by revert a; decide) i))
theorem iblk1 (c : Dev nD) : iblk m c 1 pt = m ((c : Thread nD τ).loc main_arg1) :=
  funext fun i => congrArg (m ((c : Thread nD τ).loc main_arg1)) (funext fun a => Fin.ext
    (Pipeline.Window.rect_emb_val_of_index_zero win0_1 (0 : Fin 1) a (by revert a; decide) i))
theorem iblk2 (c : Dev nD) : iblk m c 2 pt = m ((c : Thread nD τ).loc main_arg2) :=
  funext fun i => congrArg (m ((c : Thread nD τ).loc main_arg2)) (funext fun a => Fin.ext
    (Pipeline.Window.rect_emb_val_of_index_zero win0_2 (0 : Fin 1) a (by revert a; decide) i))
theorem iblk3 (c : Dev nD) : iblk m c 3 pt = m ((c : Thread nD τ).loc main_arg3) :=
  funext fun i => congrArg (m ((c : Thread nD τ).loc main_arg3)) (funext fun a => Fin.ext
    (Pipeline.Window.rect_emb_val_of_index_zero win0_3 (0 : Fin 1) a (by revert a; decide) i))

/-- The result, as the payload of the four argument arrays. -/
def out (c : Dev nD) : Vec F S4096x2048 .f32 :=
  k0_pay1 (m ((c : Thread nD τ).loc main_arg0)) (m ((c : Thread nD τ).loc main_arg1))
    ((m ((c : Thread nD τ).loc main_arg2) : Vec F S1 .f32) (ix1 0)) ((m ((c : Thread nD τ).loc main_arg3) : Vec F S1 .f32) (ix1 0))

/-- The result array ends holding it. -/
theorem arr_eq (c : Dev nD) : (dats m 0 c).arrAt 4 cfg0.N = out m c := by
  refine (dats m 0 c).arrAt_eq_of_after_last 4 pt (by decide +kernel) (out m c) fun j => ?_
  rw [after0_4, outsAt0, out_eq, iblk0, iblk1, iblk2, iblk3]
  rfl

end Stored

/-- Row `r` of `x` times column `n` of the weights, scaled, and at least zero. -/
def row (x : S4096x4096.Idx → EReal) (w : S4096x2048.Idx → EReal) (s t : S1.Idx → EReal) (r : Fin 4096) (n : Fin 2048) : EReal :=
  max ((∑ k : Fin 4096, x (ix2 r k) * w (ix2 k n)) * (s (ix1 0) * t (ix1 0))) 0

/-- That is the result at the ideal values. -/
theorem out_apply (m : (ℓ : Loc nD τ sig) → Buf (Elt Ideal) ℓ) (c : Dev nD) (r : Fin 4096) (n : Fin 2048) :
    out m c (ix2 r n) = row (m ((c : Thread nD τ).loc main_arg0)) (m ((c : Thread nD τ).loc main_arg1))
      (m ((c : Thread nD τ).loc main_arg2)) (m ((c : Thread nD τ).loc main_arg3)) r n := by
  unfold out k0_pay1 row
  have hd : dot_S4096x4096_S4096x2048_S4096x2048_1_0_0_1_n_n = DotDims.plain 4096 4096 2048 := rfl
  rw [maximumf_apply, mulf_apply, broadcast_apply, broadcast_apply, matmul, hd, Ideal.matmul_plain_apply, constant_apply]
  refine congrArg₂ max (congrArg (· * _) ?_) Ideal.ofBits_zero_f32
  exact (congrArg (· + _) Ideal.ofBits_zero_f32).trans (zero_add _)

end Ring.Ref

end
-- ==== Proof.Equation.lean ====
/-
# The kernel's result is the reference's

The reference's 4096-term product is cut into the four devices' 1024-term shares; the ring adds the shares, so each
device's result is its block of rows of the reference's.
-/
module

public import proofs.«01_k».proof.Defs
public import proofs.«01_k».proof.Proof.KernelValue
public import proofs.«01_k».proof.Proof.RefValue
public import proofs.«01_k».proof.Proof.Run

@[expose] public section

noncomputable section

namespace Ring

open Cert.KernelIdeal Cert.KernelIdeal.Gen
open Idealize.ShloMosaic hiding ix1 ix2 ix3 eq_ix2
open Idealize.ShloMosaic.ValueIdx Idealize.ShloMosaic.TcCoe Idealize.SL.Sem

variable (m : (ℓ : Loc nD τ sig) → Buf (Elt Ideal) ℓ)

/-- Device `c`'s block of an array cut by columns, read at an index. -/
theorem block_cols (c : Fin 4) (X : (⟨2, ![4096, 4096]⟩ : Shape).Idx → EReal) (r : Fin 4096) (k : Fin 1024) (hk : c.val * 1024 + k.val < 4096) :
    Layout.block ⟨2, ![4096, 1024]⟩ ⟨2, ![4096, 4096]⟩ 1 4 c X (by decide) (ix2 r k) = X (ix2 r ⟨c.val * 1024 + k.val, hk⟩) :=
  congrArg X (funext fun a => match a with
    | ⟨0, _⟩ => rfl
    | ⟨1, _⟩ => rfl)

/-- Device `c`'s block of an array cut by rows, read at an index. -/
theorem block_rows (c : Fin 4) (X : (⟨2, ![4096, 2048]⟩ : Shape).Idx → EReal) (k : Fin 1024) (n : Fin 2048) (hk : c.val * 1024 + k.val < 4096) :
    Layout.block ⟨2, ![1024, 2048]⟩ ⟨2, ![4096, 2048]⟩ 0 4 c X (by decide) (ix2 k n) = X (ix2 ⟨c.val * 1024 + k.val, hk⟩ n) :=
  congrArg X (funext fun a => match a with
    | ⟨0, _⟩ => rfl
    | ⟨1, _⟩ => rfl)

/-- The four devices' shares make the whole product. -/
theorem sum_part (X : (⟨2, ![4096, 4096]⟩ : Shape).Idx → EReal) (W : (⟨2, ![4096, 2048]⟩ : Shape).Idx → EReal)
    (hX : ∀ c : Fin 4, xD m c = Layout.block ⟨2, ![4096, 1024]⟩ ⟨2, ![4096, 4096]⟩ 1 4 c X)
    (hW : ∀ c : Fin 4, wD m c = Layout.block ⟨2, ![1024, 2048]⟩ ⟨2, ![4096, 2048]⟩ 0 4 c W) (r : Fin 4096) (n : Fin 2048) :
    ∑ e : Fin 4, part m r n e = ∑ k : Fin 4096, X (ix2 r k) * W (ix2 k n) :=
  Fin.sum_mul_add_congr fun e k hl => by rw [hX e, hW e, block_cols e X r k hl, block_rows e W k n hl]

/-- A device's result read at a row and a column of it. -/
theorem IsOut.apply {m : (ℓ : Loc nD τ sig) → Buf (Elt Ideal) ℓ} {c : Dev nD} {f : Buf (Elt Ideal) ((c : Thread nD τ).loc main_v1)}
    (hf : IsOut m c f) (b h : Fin 2) (i : Fin 512) (j : Fin 1024) (hr : 512 * b.val + i.val < 1024) :
    (f : S1024x2048.Idx → EReal) (ix2 ⟨512 * b.val + i.val, hr⟩ (colN h j))
      = max ((∑ e : Fin 4, part m (rowN c b i) (colN h j) e) * (sD m c (ix1 0) * tD m c (ix1 0))) 0 := by
  have hd : half (dirOf h) = h := by revert h; decide
  have hi : (oM.access (colRect h)).emb (sq ⟨512 * b.val + i.val, hr⟩ j) = ix2 ⟨512 * b.val + i.val, hr⟩ (colN h j) := by
    funext a
    match a with
    | ⟨0, _⟩ => exact Fin.ext (by show 0 + 1 * (512 * b.val + i.val) = 512 * b.val + i.val; omega)
    | ⟨1, _⟩ => exact Fin.ext (by show 1024 * h.val + 1 * j.val = 1024 * h.val + j.val; omega)
  have hb : (⟨(512 * b.val + i.val) / 512, by omega⟩ : Fin 2) = b := Fin.ext (by show (512 * b.val + i.val) / 512 = b.val; omega)
  have hi' : (⟨(512 * b.val + i.val) % 512, Nat.mod_lt _ (by decide)⟩ : Fin 512) = i :=
    Fin.ext (by show (512 * b.val + i.val) % 512 = i.val; omega)
  have key : joinH (outv m c (dirOf h)) (sq ⟨512 * b.val + i.val, hr⟩ j) = outv m c (dirOf h) b (hx i j) :=
    congrArg₂ (fun b' i' => outv m c (dirOf h) b' (hx i' j)) hb hi'
  have e := outv_apply m c (dirOf h) b i j
  rw [hd] at e
  exact ((congrArg f hi).symm.trans (congrFun (hf h) (sq ⟨512 * b.val + i.val, hr⟩ j))).trans (key.trans e)

/-- So it is the device's block of rows of the reference's result. -/
theorem IsOut.eq_block {m : (ℓ : Loc nD τ sig) → Buf (Elt Ideal) ℓ} {c : Fin 4} {f : Buf (Elt Ideal) ((c : Thread nD τ).loc main_v1)}
    (hf : IsOut m c f) (X : (⟨2, ![4096, 4096]⟩ : Shape).Idx → EReal) (W : (⟨2, ![4096, 2048]⟩ : Shape).Idx → EReal) (s t : S1.Idx → EReal)
    (hX : ∀ c : Fin 4, xD m c = Layout.block ⟨2, ![4096, 1024]⟩ ⟨2, ![4096, 4096]⟩ 1 4 c X)
    (hW : ∀ c : Fin 4, wD m c = Layout.block ⟨2, ![1024, 2048]⟩ ⟨2, ![4096, 2048]⟩ 0 4 c W)
    (hs : sD m c = s) (ht : tD m c = t) (v : (⟨2, ![4096, 2048]⟩ : Shape).Idx → EReal)
    (hv : ∀ r n, v (ix2 r n) = Ref.row X W s t r n) :
    f = Layout.block ⟨2, ![1024, 2048]⟩ ⟨2, ![4096, 2048]⟩ 0 4 c v (by decide) := by
  have at' : ∀ (r : Fin 1024) (n : Fin 2048), (f : S1024x2048.Idx → EReal) (ix2 r n)
      = Layout.block ⟨2, ![1024, 2048]⟩ ⟨2, ![4096, 2048]⟩ 0 4 c v (by decide) (ix2 r n) := fun r n => by
    have hr : 512 * (r.val / 512) + r.val % 512 < 1024 := by omega
    have hk : c.val * 1024 + r.val < 4096 := by omega
    have er : (⟨512 * (r.val / 512) + r.val % 512, hr⟩ : Fin 1024) = r := Fin.ext (by show 512 * (r.val / 512) + r.val % 512 = r.val; omega)
    have en : colN ⟨n.val / 1024, by omega⟩ ⟨n.val % 1024, Nat.mod_lt _ (by decide)⟩ = n :=
      Fin.ext (by show 1024 * (n.val / 1024) + n.val % 1024 = n.val; omega)
    have eR : rowN c ⟨r.val / 512, by omega⟩ ⟨r.val % 512, Nat.mod_lt _ (by decide)⟩ = (⟨c.val * 1024 + r.val, hk⟩ : Fin 4096) :=
      Fin.ext (by show 1024 * c.val + 512 * (r.val / 512) + r.val % 512 = c.val * 1024 + r.val; omega)
    have e := hf.apply ⟨r.val / 512, by omega⟩ ⟨n.val / 1024, by omega⟩ ⟨r.val % 512, Nat.mod_lt _ (by decide)⟩
      ⟨n.val % 1024, Nat.mod_lt _ (by decide)⟩ hr
    rw [er, en, eR, sum_part m X W hX hW, hs, ht] at e
    rw [block_rows c v r n hk, hv]
    exact e
  funext i
  exact (congrArg f (eq_ix2 i)).trans ((at' (i 0) (i 1)).trans
    (congrArg (Layout.block ⟨2, ![1024, 2048]⟩ ⟨2, ![4096, 2048]⟩ 0 4 c v (by decide)) (eq_ix2 i).symm))

/-- Over the extended reals, from arguments that are blocks of the reference's, every device ends with its block of the
    reference's result, and both programs keep their arguments. -/
theorem algebraic : letI := Cert.KernelIdeal.Gen.facts; letI := Cert.ReferenceIdeal.Gen.facts;
    Cert.algebraic_KernelIdeal_ReferenceIdeal := fun m g m' g' _ h =>
  ⟨Ref.out m' 0,
    (θ_run (Cert.KernelIdeal.defs (F := Ideal)) _ _).mono (fun _ hr c =>
        ⟨IsOut.eq_block (hr.1 c).2 _ _ _ _ (fun c => (h c).1) (fun c => (h c).2.1) (h c).2.2.1 (h c).2.2.2 _ (Ref.out_apply m' 0),
          (hr.1 c).1⟩) (run_main (F := Ideal) m g),
    (θ_run (Cert.ReferenceIdeal.defs (F := Ideal)) _ _).mono (fun _ hr =>
        ⟨(hr 0).1.trans (Ref.arr_eq m' 0), (hr 0).2⟩) (Cert.ReferenceIdeal.Value.run_blocks (F := Ideal) m' g')⟩

end Ring

end
-- ==== Proof.lean ====
/-
# The claim

The kernel and the reference run and keep their arguments, and over the extended reals each device ends with its block of
the reference's result.  The modules under `Proof/` prove the parts: the run of the ring (`Run`), what its blocks hold
(`Blocks`, `KernelValue`), what the reference computes (`RefValue`), and that the two agree (`Equation`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything stated in `Cert.Claim`: three frames, nothing rewritten, and the value of every device's result. -/
theorem claim : Cert.Claim :=
  ⟨Cert.Kernel.Gen.facts, Cert.KernelIdeal.Gen.facts, Cert.ReferenceIdeal.Gen.facts,
    Ring.frame_kernel, Ring.frame_ideal, fun m ρ _ => Cert.ReferenceIdeal.Gen.frame m ρ, trivial, Ring.algebraic⟩

end Cert.Proof

end
